-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S4096x256 : Shape := ⟨2, ![4096, 256]⟩
abbrev S256x128 : Shape := ⟨2, ![256, 128]⟩
abbrev S256x2 : Shape := ⟨2, ![256, 2]⟩
abbrev S256 : Shape := ⟨1, ![256]⟩
abbrev S256x1 : Shape := ⟨2, ![256, 1]⟩
abbrev S_ : Shape := ⟨0, ![]⟩

class Facts : Prop where
  slices_S256x2_S256x1_0_0 : S256x2.Slices ![0, 0] S256x1
  shapeCasts_S256x1_S256 : S256x1.ShapeCasts S256
  bcast_S_S256 : S_.BroadcastsInDim S256 (![] : Fin 0 → Fin S256.rank)
  reducesTo_S256_S_d0 : S256.ReducesTo [0] S_
  h_S_ : 0 < S_.numel
  slices_S256x2_S256x1_0_1 : S256x2.Slices ![0, 1] S256x1

variable [Facts]

def fn_where {F : FTy → Type} [FloatOps F] (arg0 : IVec S256 1) (arg1 : IVec S256 32) (arg2 : IVec S256 32) : IVec S256 32 :=
  let v0 : IVec S256 32 := select arg0 arg1 arg2
  v0

def fn_floor_divide {F : FTy → Type} [FloatOps F] (arg0 : IVec S256 32) (arg1 : IVec S_ 32) : IVec S256 32 :=
  let v0 : IVec S_ 32 := id arg1
  let v1 : IVec S256 32 := broadcastInDim S256 ![] bcast_S_S256 v0
  let v2 : IVec S256 32 := Host.divsi arg0 v1
  let v3 : IVec S256 32 := signi arg0
  let v4 : IVec S_ 32 := signi v0
  let v5 : IVec S256 32 := broadcastInDim S256 ![] bcast_S_S256 v4
  let v6 : IVec S256 1 := cmpi .ne v3 v5
  let v7 : IVec S256 32 := broadcastInDim S256 ![] bcast_S_S256 v0
  let v8 : IVec S256 32 := Host.remsi arg0 v7
  let c : IVec S_ 32 := constantI S_ 32 0#32
  let v9 : IVec S256 32 := broadcastInDim S256 ![] bcast_S_S256 c
  let v10 : IVec S256 1 := cmpi .ne v8 v9
  let v11 : IVec S256 1 := andi v6 v10
  let c_0 : IVec S_ 32 := constantI S_ 32 1#32
  let v12 : IVec S256 32 := broadcastInDim S256 ![] bcast_S_S256 c_0
  let v13 : IVec S256 32 := subi v2 v12
  let v14 : IVec S256 32 := fn_where (F := F) v11 v13 v2
  v14

def fn {F : FTy → Type} [FloatOps F] (main_arg0 : FVec F S4096x256 .f32) (main_arg1 : FVec F S256x128 .f32) (main_arg2 : IVec S256x2 32) : IVec S_ 1 :=
  let main_v0 : IVec S256 32 := iotaInDim S256 32 0
  let main_v1 : IVec S256x1 32 := (extractStridedSlice S256x1 ![0, 0] · slices_S256x2_S256x1_0_0) main_arg2
  let main_v2 : IVec S256 32 := shapeCast S256 main_v1 shapeCasts_S256x1_S256
  let main_c : IVec S_ 32 := constantI S_ 32 2#32
  let main_v3 : IVec S256 32 := fn_floor_divide (F := F) main_v0 main_c
  let main_v4 : IVec S256 1 := cmpi .eq main_v2 main_v3
  let main_c_0 : IVec S_ 1 := constantI S_ 1 1#1
  let main_v5 : IVec S_ 1 := (fun x v => Host.reduce IntOp.andi x v reducesTo_S256_S_d0 h_S_) main_v4 main_c_0
  let main_v6 : IVec S256x1 32 := (extractStridedSlice S256x1 ![0, 1] · slices_S256x2_S256x1_0_1) main_arg2
  let main_v7 : IVec S256 32 := shapeCast S256 main_v6 shapeCasts_S256x1_S256
  let main_v8 : IVec S256 1 := cmpi .eq main_v7 main_v0
  let main_c_1 : IVec S_ 1 := constantI S_ 1 1#1
  let main_v9 : IVec S_ 1 := (fun x v => Host.reduce IntOp.andi x v reducesTo_S256_S_d0 h_S_) main_v8 main_c_1
  let main_v10 : IVec S_ 1 := andi main_v5 main_v9
  main_v10
-- ==== Kernel.lean ====
abbrev S4096x256 : Shape := ⟨2, ![4096, 256]⟩
abbrev S256x128 : Shape := ⟨2, ![256, 128]⟩
abbrev S256x2 : Shape := ⟨2, ![256, 2]⟩
abbrev S67108864 : Shape := ⟨1, ![67108864]⟩
abbrev S128x256 : Shape := ⟨2, ![128, 256]⟩
abbrev S32768 : Shape := ⟨1, ![32768]⟩
abbrev S_ : Shape := ⟨0, ![]⟩
abbrev S1x16 : Shape := ⟨2, ![1, 16]⟩
abbrev S16 : Shape := ⟨1, ![16]⟩
abbrev S1 : Shape := ⟨1, ![1]⟩
abbrev S4096x128x128 : Shape := ⟨3, ![4096, 128, 128]⟩

abbrev nBuf : Table → Nat
  | .hbm => 5
  | .local .scVector .vmem => 4
  | _ => 0

abbrev bufTy : (tb : Table) → Fin (nBuf tb) → BufTy
  | .hbm, ⟨0, _⟩ => ⟨S4096x256, .f32⟩
  | .hbm, ⟨1, _⟩ => ⟨S256x128, .f32⟩
  | .hbm, ⟨2, _⟩ => ⟨S256x2, .i32⟩
  | .hbm, ⟨3, _⟩ => ⟨S67108864, .f32⟩
  | .hbm, ⟨4, _⟩ => ⟨S4096x128x128, .f32⟩
  | .local .scVector .vmem, ⟨0, _⟩ => ⟨S256x128, .f32⟩
  | .local .scVector .vmem, ⟨1, _⟩ => ⟨S128x256, .f32⟩
  | .local .scVector .vmem, ⟨2, _⟩ => ⟨S32768, .f32⟩
  | .local .scVector .vmem, ⟨3, _⟩ => ⟨S32768, .f32⟩
  | _, _ => ⟨S4096x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_4_r1 : BitVec 32 := 0#32
  ![v2.toNat, 0]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_cond1 (k0_t1 : Fin k0_t1_loop.trips) : BitVec 1 :=
  let c0_i32_0 : BitVec 32 := 0#32
  let c1_i32 : BitVec 32 := 1#32
  let arg11 : BitVec 32 := Scf.iv c0_i32_0 c1_i32 k0_t1
  let c0_i32_9 : BitVec 32 := 0#32
  let v18 : BitVec 1 := Scalar.cmpi .sgt arg11 c0_i32_9
  let v19 : BitVec 32 := Scalar.extui v18
  let c0_i32_10 : BitVec 32 := 0#32
  let v20 : BitVec 1 := Scalar.cmpi .ne v19 c0_i32_10
  v20

def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_4 : BitVec 32 := 2#32
  let c0_i32_0 : BitVec 32 := 0#32
  let c1_i32 : BitVec 32 := 1#32
  let arg11 : BitVec 32 := Scf.iv c0_i32_0 c1_i32 k0_t1
  let v12 : BitVec 32 := Scalar.muli c2_i32_4 arg11
  let c0_i32_5 : BitVec 32 := 0#32
  let v13 : BitVec 32 := Scalar.addi v12 c0_i32_5
  let c2_i32_6 : BitVec 32 := 2#32
  let v14 : BitVec 32 := Scalar.muli v13 c2_i32_6
  let v15 : BitVec 32 := Scalar.addi v2 v14
  let c128_i32_7 : BitVec 32 := 128#32
  let v16 : BitVec 32 := Scalar.muli v15 c128_i32_7
  let c128_i32_8 : BitVec 32 := 128#32
  let v17 : BitVec 32 := Scalar.muli v16 c128_i32_8
  ![v17.toNat]
@[reducible] def k0_t2_loop : Scf.Loop 32 :=
  let c0_i32_11 : BitVec 32 := 0#32
  let c16_i32 : BitVec 32 := 16#32
  let v21 : BitVec 32 := Scalar.addi c0_i32_11 c16_i32
  let c1_i32_12 : BitVec 32 := 1#32
  ⟨c0_i32_11, v21, c1_i32_12⟩
def k0_mult1 (k0_t2 : Fin k0_t2_loop.trips) : BitVec 32 :=
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c16_i32_29 : BitVec 32 := 16#32
  let v40 : BitVec 32 := Scalar.muli v37 c16_i32_29
  v40
def k0_off3 (k0_t1 : Fin k0_t1_loop.trips) (k0_t2 : Fin k0_t2_loop.trips) (c0_i32_28 : BitVec 32) : Fin 2 → Nat :=
  let c2_i32_4 : BitVec 32 := 2#32
  let c0_i32_0 : BitVec 32 := 0#32
  let c1_i32 : BitVec 32 := 1#32
  let arg11 : BitVec 32 := Scf.iv c0_i32_0 c1_i32 k0_t1
  let v12 : BitVec 32 := Scalar.muli c2_i32_4 arg11
  let c0_i32_5 : BitVec 32 := 0#32
  let v13 : BitVec 32 := Scalar.addi v12 c0_i32_5
  let c2_i32_27 : BitVec 32 := 2#32
  let v38 : BitVec 32 := Scalar.muli v13 c2_i32_27
  let v39 : BitVec 32 := Scalar.addi v38 c0_i32_28
  let v42 : Index := Scalar.indexCast v39
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c16_i32_29 : BitVec 32 := 16#32
  let v40 : BitVec 32 := Scalar.muli v37 c16_i32_29
  let v41 : BitVec 32 := v40
  let v43 : Index := Scalar.indexCast v41
  ![v42.toNat, v43.toNat]
def k0_mult2 (k0_t2 : Fin k0_t2_loop.trips) : BitVec 32 :=
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c16_i32_32 : BitVec 32 := 16#32
  let v48 : BitVec 32 := Scalar.muli v37 c16_i32_32
  v48
def k0_off4 (k0_t2 : Fin k0_t2_loop.trips) (c0_i32_33 : BitVec 32) : Fin 2 → Nat :=
  let c2_i32_34 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v56 : BitVec 32 := Scalar.muli c2_i32_34 v55
  let v57 : Index := Scalar.indexCast v56
  let c0 : Index := 0#32
  ![v57.toNat, 0]
def k0_off5 (k0_t2 : Fin k0_t2_loop.trips) (c0_i32_33 : BitVec 32) : Fin 2 → Nat :=
  let c2_i32_35 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v60 : BitVec 32 := Scalar.muli c2_i32_35 v55
  let v61 : Index := Scalar.indexCast v60
  let c16 : Index := 16#32
  ![v61.toNat, 16]
def k0_off6 (k0_t2 : Fin k0_t2_loop.trips) (c0_i32_33 : BitVec 32) : Fin 2 → Nat :=
  let c2_i32_36 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v64 : BitVec 32 := Scalar.muli c2_i32_36 v55
  let v65 : Index := Scalar.indexCast v64
  let c32 : Index := 32#32
  ![v65.toNat, 32]
def k0_off7 (k0_t2 : Fin k0_t2_loop.trips) (c0_i32_33 : BitVec 32) : Fin 2 → Nat :=
  let c2_i32_37 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v68 : BitVec 32 := Scalar.muli c2_i32_37 v55
  let v69 : Index := Scalar.indexCast v68
  let c48 : Index := 48#32
  ![v69.toNat, 48]
def k0_off8 (k0_t2 : Fin k0_t2_loop.trips) (c0_i32_33 : BitVec 32) : Fin 2 → Nat :=
  let c2_i32_38 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v72 : BitVec 32 := Scalar.muli c2_i32_38 v55
  let v73 : Index := Scalar.indexCast v72
  let c64 : Index := 64#32
  ![v73.toNat, 64]
def k0_off9 (k0_t2 : Fin k0_t2_loop.trips) (c0_i32_33 : BitVec 32) : Fin 2 → Nat :=
  let c2_i32_39 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v76 : BitVec 32 := Scalar.muli c2_i32_39 v55
  let v77 : Index := Scalar.indexCast v76
  let c80 : Index := 80#32
  ![v77.toNat, 80]
def k0_off10 (k0_t2 : Fin k0_t2_loop.trips) (c0_i32_33 : BitVec 32) : Fin 2 → Nat :=
  let c2_i32_40 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v80 : BitVec 32 := Scalar.muli c2_i32_40 v55
  let v81 : Index := Scalar.indexCast v80
  let c96 : Index := 96#32
  ![v81.toNat, 96]
def k0_off11 (k0_t2 : Fin k0_t2_loop.trips) (c0_i32_33 : BitVec 32) : Fin 2 → Nat :=
  let c2_i32_41 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v84 : BitVec 32 := Scalar.muli c2_i32_41 v55
  let v85 : Index := Scalar.indexCast v84
  let c112 : Index := 112#32
  ![v85.toNat, 112]
def k0_off12 (k0_t2 : Fin k0_t2_loop.trips) (c0_i32_33 : BitVec 32) : Fin 2 → Nat :=
  let c2_i32_42 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v88 : BitVec 32 := Scalar.muli c2_i32_42 v55
  let c1_i32_43 : BitVec 32 := 1#32
  let v89 : BitVec 32 := Scalar.addi v88 c1_i32_43
  let v90 : Index := Scalar.indexCast v89
  let c0_44 : Index := 0#32
  ![v90.toNat, 0]
def k0_off13 (k0_t2 : Fin k0_t2_loop.trips) (c0_i32_33 : BitVec 32) : Fin 2 → Nat :=
  let c2_i32_45 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v93 : BitVec 32 := Scalar.muli c2_i32_45 v55
  let c1_i32_46 : BitVec 32 := 1#32
  let v94 : BitVec 32 := Scalar.addi v93 c1_i32_46
  let v95 : Index := Scalar.indexCast v94
  let c16_47 : Index := 16#32
  ![v95.toNat, 16]
def k0_off14 (k0_t2 : Fin k0_t2_loop.trips) (c0_i32_33 : BitVec 32) : Fin 2 → Nat :=
  let c2_i32_48 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v98 : BitVec 32 := Scalar.muli c2_i32_48 v55
  let c1_i32_49 : BitVec 32 := 1#32
  let v99 : BitVec 32 := Scalar.addi v98 c1_i32_49
  let v100 : Index := Scalar.indexCast v99
  let c32_50 : Index := 32#32
  ![v100.toNat, 32]
def k0_off15 (k0_t2 : Fin k0_t2_loop.trips) (c0_i32_33 : BitVec 32) : Fin 2 → Nat :=
  let c2_i32_51 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v103 : BitVec 32 := Scalar.muli c2_i32_51 v55
  let c1_i32_52 : BitVec 32 := 1#32
  let v104 : BitVec 32 := Scalar.addi v103 c1_i32_52
  let v105 : Index := Scalar.indexCast v104
  let c48_53 : Index := 48#32
  ![v105.toNat, 48]
def k0_off16 (k0_t2 : Fin k0_t2_loop.trips) (c0_i32_33 : BitVec 32) : Fin 2 → Nat :=
  let c2_i32_54 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v108 : BitVec 32 := Scalar.muli c2_i32_54 v55
  let c1_i32_55 : BitVec 32 := 1#32
  let v109 : BitVec 32 := Scalar.addi v108 c1_i32_55
  let v110 : Index := Scalar.indexCast v109
  let c64_56 : Index := 64#32
  ![v110.toNat, 64]
def k0_off17 (k0_t2 : Fin k0_t2_loop.trips) (c0_i32_33 : BitVec 32) : Fin 2 → Nat :=
  let c2_i32_57 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v113 : BitVec 32 := Scalar.muli c2_i32_57 v55
  let c1_i32_58 : BitVec 32 := 1#32
  let v114 : BitVec 32 := Scalar.addi v113 c1_i32_58
  let v115 : Index := Scalar.indexCast v114
  let c80_59 : Index := 80#32
  ![v115.toNat, 80]
def k0_off18 (k0_t2 : Fin k0_t2_loop.trips) (c0_i32_33 : BitVec 32) : Fin 2 → Nat :=
  let c2_i32_60 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v118 : BitVec 32 := Scalar.muli c2_i32_60 v55
  let c1_i32_61 : BitVec 32 := 1#32
  let v119 : BitVec 32 := Scalar.addi v118 c1_i32_61
  let v120 : Index := Scalar.indexCast v119
  let c96_62 : Index := 96#32
  ![v120.toNat, 96]
def k0_off19 (k0_t2 : Fin k0_t2_loop.trips) (c0_i32_33 : BitVec 32) : Fin 2 → Nat :=
  let c2_i32_63 : BitVec 32 := 2#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v123 : BitVec 32 := Scalar.muli c2_i32_63 v55
  let c1_i32_64 : BitVec 32 := 1#32
  let v124 : BitVec 32 := Scalar.addi v123 c1_i32_64
  let v125 : Index := Scalar.indexCast v124
  let c112_65 : Index := 112#32
  ![v125.toNat, 112]
def k0_mult3 (k0_t2 : Fin k0_t2_loop.trips) : BitVec 32 :=
  let c0_i32_66 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v132 : BitVec 32 := Scalar.addi c0_i32_66 v55
  let c128_i32_67 : BitVec 32 := 128#32
  let v133 : BitVec 32 := Scalar.muli v132 c128_i32_67
  let c0_i32_68 : BitVec 32 := 0#32
  let v134 : BitVec 32 := Scalar.addi v133 c0_i32_68
  v134
def k0_off20 (k0_t2 : Fin k0_t2_loop.trips) (c0_i32_66 : BitVec 32) (c0_i32_33 : BitVec 32) (c0_i32_68 : BitVec 32) : Fin 1 → Nat :=
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v132 : BitVec 32 := Scalar.addi c0_i32_66 v55
  let c128_i32_67 : BitVec 32 := 128#32
  let v133 : BitVec 32 := Scalar.muli v132 c128_i32_67
  let v134 : BitVec 32 := Scalar.addi v133 c0_i32_68
  let v135 : BitVec 32 := v134
  let v141 : Index := Scalar.indexCast v135
  ![v141.toNat]
def k0_mult4 (k0_t2 : Fin k0_t2_loop.trips) : BitVec 32 :=
  let c0_i32_69 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v145 : BitVec 32 := Scalar.addi c0_i32_69 v55
  let c128_i32_70 : BitVec 32 := 128#32
  let v146 : BitVec 32 := Scalar.muli v145 c128_i32_70
  let c16_i32_71 : BitVec 32 := 16#32
  let v147 : BitVec 32 := Scalar.addi v146 c16_i32_71
  v147
def k0_mult5 (k0_t2 : Fin k0_t2_loop.trips) : BitVec 32 :=
  let c0_i32_72 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v158 : BitVec 32 := Scalar.addi c0_i32_72 v55
  let c128_i32_73 : BitVec 32 := 128#32
  let v159 : BitVec 32 := Scalar.muli v158 c128_i32_73
  let c32_i32_74 : BitVec 32 := 32#32
  let v160 : BitVec 32 := Scalar.addi v159 c32_i32_74
  v160
def k0_mult6 (k0_t2 : Fin k0_t2_loop.trips) : BitVec 32 :=
  let c0_i32_75 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v171 : BitVec 32 := Scalar.addi c0_i32_75 v55
  let c128_i32_76 : BitVec 32 := 128#32
  let v172 : BitVec 32 := Scalar.muli v171 c128_i32_76
  let c48_i32 : BitVec 32 := 48#32
  let v173 : BitVec 32 := Scalar.addi v172 c48_i32
  v173
def k0_mult7 (k0_t2 : Fin k0_t2_loop.trips) : BitVec 32 :=
  let c0_i32_77 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v184 : BitVec 32 := Scalar.addi c0_i32_77 v55
  let c128_i32_78 : BitVec 32 := 128#32
  let v185 : BitVec 32 := Scalar.muli v184 c128_i32_78
  let c64_i32 : BitVec 32 := 64#32
  let v186 : BitVec 32 := Scalar.addi v185 c64_i32
  v186
def k0_mult8 (k0_t2 : Fin k0_t2_loop.trips) : BitVec 32 :=
  let c0_i32_79 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v197 : BitVec 32 := Scalar.addi c0_i32_79 v55
  let c128_i32_80 : BitVec 32 := 128#32
  let v198 : BitVec 32 := Scalar.muli v197 c128_i32_80
  let c80_i32 : BitVec 32 := 80#32
  let v199 : BitVec 32 := Scalar.addi v198 c80_i32
  v199
def k0_mult9 (k0_t2 : Fin k0_t2_loop.trips) : BitVec 32 :=
  let c0_i32_81 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v210 : BitVec 32 := Scalar.addi c0_i32_81 v55
  let c128_i32_82 : BitVec 32 := 128#32
  let v211 : BitVec 32 := Scalar.muli v210 c128_i32_82
  let c96_i32 : BitVec 32 := 96#32
  let v212 : BitVec 32 := Scalar.addi v211 c96_i32
  v212
def k0_mult10 (k0_t2 : Fin k0_t2_loop.trips) : BitVec 32 :=
  let c0_i32_83 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v223 : BitVec 32 := Scalar.addi c0_i32_83 v55
  let c128_i32_84 : BitVec 32 := 128#32
  let v224 : BitVec 32 := Scalar.muli v223 c128_i32_84
  let c112_i32 : BitVec 32 := 112#32
  let v225 : BitVec 32 := Scalar.addi v224 c112_i32
  v225
def k0_mult11 (k0_t2 : Fin k0_t2_loop.trips) : BitVec 32 :=
  let c128_i32_85 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v240 : BitVec 32 := Scalar.addi c128_i32_85 v55
  let c128_i32_86 : BitVec 32 := 128#32
  let v241 : BitVec 32 := Scalar.muli v240 c128_i32_86
  let c0_i32_87 : BitVec 32 := 0#32
  let v242 : BitVec 32 := Scalar.addi v241 c0_i32_87
  v242
def k0_mult12 (k0_t2 : Fin k0_t2_loop.trips) : BitVec 32 :=
  let c128_i32_88 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v253 : BitVec 32 := Scalar.addi c128_i32_88 v55
  let c128_i32_89 : BitVec 32 := 128#32
  let v254 : BitVec 32 := Scalar.muli v253 c128_i32_89
  let c16_i32_90 : BitVec 32 := 16#32
  let v255 : BitVec 32 := Scalar.addi v254 c16_i32_90
  v255
def k0_mult13 (k0_t2 : Fin k0_t2_loop.trips) : BitVec 32 :=
  let c128_i32_91 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v266 : BitVec 32 := Scalar.addi c128_i32_91 v55
  let c128_i32_92 : BitVec 32 := 128#32
  let v267 : BitVec 32 := Scalar.muli v266 c128_i32_92
  let c32_i32_93 : BitVec 32 := 32#32
  let v268 : BitVec 32 := Scalar.addi v267 c32_i32_93
  v268
def k0_mult14 (k0_t2 : Fin k0_t2_loop.trips) : BitVec 32 :=
  let c128_i32_94 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v279 : BitVec 32 := Scalar.addi c128_i32_94 v55
  let c128_i32_95 : BitVec 32 := 128#32
  let v280 : BitVec 32 := Scalar.muli v279 c128_i32_95
  let c48_i32_96 : BitVec 32 := 48#32
  let v281 : BitVec 32 := Scalar.addi v280 c48_i32_96
  v281
def k0_mult15 (k0_t2 : Fin k0_t2_loop.trips) : BitVec 32 :=
  let c128_i32_97 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v292 : BitVec 32 := Scalar.addi c128_i32_97 v55
  let c128_i32_98 : BitVec 32 := 128#32
  let v293 : BitVec 32 := Scalar.muli v292 c128_i32_98
  let c64_i32_99 : BitVec 32 := 64#32
  let v294 : BitVec 32 := Scalar.addi v293 c64_i32_99
  v294
def k0_mult16 (k0_t2 : Fin k0_t2_loop.trips) : BitVec 32 :=
  let c128_i32_100 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v305 : BitVec 32 := Scalar.addi c128_i32_100 v55
  let c128_i32_101 : BitVec 32 := 128#32
  let v306 : BitVec 32 := Scalar.muli v305 c128_i32_101
  let c80_i32_102 : BitVec 32 := 80#32
  let v307 : BitVec 32 := Scalar.addi v306 c80_i32_102
  v307
def k0_mult17 (k0_t2 : Fin k0_t2_loop.trips) : BitVec 32 :=
  let c128_i32_103 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v318 : BitVec 32 := Scalar.addi c128_i32_103 v55
  let c128_i32_104 : BitVec 32 := 128#32
  let v319 : BitVec 32 := Scalar.muli v318 c128_i32_104
  let c96_i32_105 : BitVec 32 := 96#32
  let v320 : BitVec 32 := Scalar.addi v319 c96_i32_105
  v320
def k0_mult18 (k0_t2 : Fin k0_t2_loop.trips) : BitVec 32 :=
  let c128_i32_106 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v331 : BitVec 32 := Scalar.addi c128_i32_106 v55
  let c128_i32_107 : BitVec 32 := 128#32
  let v332 : BitVec 32 := Scalar.muli v331 c128_i32_107
  let c112_i32_108 : BitVec 32 := 112#32
  let v333 : BitVec 32 := Scalar.addi v332 c112_i32_108
  v333
def k0_mult19 (k0_t2 : Fin k0_t2_loop.trips) : BitVec 32 :=
  let c0_i32_151 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v422 : BitVec 32 := Scalar.addi c0_i32_151 v345
  let c128_i32_152 : BitVec 32 := 128#32
  let v423 : BitVec 32 := Scalar.muli v422 c128_i32_152
  let c0_i32_153 : BitVec 32 := 0#32
  let v424 : BitVec 32 := Scalar.addi v423 c0_i32_153
  v424
def k0_mult20 (k0_t2 : Fin k0_t2_loop.trips) : BitVec 32 :=
  let c0_i32_154 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v435 : BitVec 32 := Scalar.addi c0_i32_154 v345
  let c128_i32_155 : BitVec 32 := 128#32
  let v436 : BitVec 32 := Scalar.muli v435 c128_i32_155
  let c16_i32_156 : BitVec 32 := 16#32
  let v437 : BitVec 32 := Scalar.addi v436 c16_i32_156
  v437
def k0_mult21 (k0_t2 : Fin k0_t2_loop.trips) : BitVec 32 :=
  let c0_i32_157 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v448 : BitVec 32 := Scalar.addi c0_i32_157 v345
  let c128_i32_158 : BitVec 32 := 128#32
  let v449 : BitVec 32 := Scalar.muli v448 c128_i32_158
  let c32_i32_159 : BitVec 32 := 32#32
  let v450 : BitVec 32 := Scalar.addi v449 c32_i32_159
  v450
def k0_mult22 (k0_t2 : Fin k0_t2_loop.trips) : BitVec 32 :=
  let c0_i32_160 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v461 : BitVec 32 := Scalar.addi c0_i32_160 v345
  let c128_i32_161 : BitVec 32 := 128#32
  let v462 : BitVec 32 := Scalar.muli v461 c128_i32_161
  let c48_i32_162 : BitVec 32 := 48#32
  let v463 : BitVec 32 := Scalar.addi v462 c48_i32_162
  v463
def k0_mult23 (k0_t2 : Fin k0_t2_loop.trips) : BitVec 32 :=
  let c0_i32_163 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v474 : BitVec 32 := Scalar.addi c0_i32_163 v345
  let c128_i32_164 : BitVec 32 := 128#32
  let v475 : BitVec 32 := Scalar.muli v474 c128_i32_164
  let c64_i32_165 : BitVec 32 := 64#32
  let v476 : BitVec 32 := Scalar.addi v475 c64_i32_165
  v476
def k0_mult24 (k0_t2 : Fin k0_t2_loop.trips) : BitVec 32 :=
  let c0_i32_166 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v487 : BitVec 32 := Scalar.addi c0_i32_166 v345
  let c128_i32_167 : BitVec 32 := 128#32
  let v488 : BitVec 32 := Scalar.muli v487 c128_i32_167
  let c80_i32_168 : BitVec 32 := 80#32
  let v489 : BitVec 32 := Scalar.addi v488 c80_i32_168
  v489
def k0_mult25 (k0_t2 : Fin k0_t2_loop.trips) : BitVec 32 :=
  let c0_i32_169 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v500 : BitVec 32 := Scalar.addi c0_i32_169 v345
  let c128_i32_170 : BitVec 32 := 128#32
  let v501 : BitVec 32 := Scalar.muli v500 c128_i32_170
  let c96_i32_171 : BitVec 32 := 96#32
  let v502 : BitVec 32 := Scalar.addi v501 c96_i32_171
  v502
def k0_mult26 (k0_t2 : Fin k0_t2_loop.trips) : BitVec 32 :=
  let c0_i32_172 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v513 : BitVec 32 := Scalar.addi c0_i32_172 v345
  let c128_i32_173 : BitVec 32 := 128#32
  let v514 : BitVec 32 := Scalar.muli v513 c128_i32_173
  let c112_i32_174 : BitVec 32 := 112#32
  let v515 : BitVec 32 := Scalar.addi v514 c112_i32_174
  v515
def k0_mult27 (k0_t2 : Fin k0_t2_loop.trips) : BitVec 32 :=
  let c128_i32_175 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v530 : BitVec 32 := Scalar.addi c128_i32_175 v345
  let c128_i32_176 : BitVec 32 := 128#32
  let v531 : BitVec 32 := Scalar.muli v530 c128_i32_176
  let c0_i32_177 : BitVec 32 := 0#32
  let v532 : BitVec 32 := Scalar.addi v531 c0_i32_177
  v532
def k0_mult28 (k0_t2 : Fin k0_t2_loop.trips) : BitVec 32 :=
  let c128_i32_178 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v543 : BitVec 32 := Scalar.addi c128_i32_178 v345
  let c128_i32_179 : BitVec 32 := 128#32
  let v544 : BitVec 32 := Scalar.muli v543 c128_i32_179
  let c16_i32_180 : BitVec 32 := 16#32
  let v545 : BitVec 32 := Scalar.addi v544 c16_i32_180
  v545
def k0_mult29 (k0_t2 : Fin k0_t2_loop.trips) : BitVec 32 :=
  let c128_i32_181 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v556 : BitVec 32 := Scalar.addi c128_i32_181 v345
  let c128_i32_182 : BitVec 32 := 128#32
  let v557 : BitVec 32 := Scalar.muli v556 c128_i32_182
  let c32_i32_183 : BitVec 32 := 32#32
  let v558 : BitVec 32 := Scalar.addi v557 c32_i32_183
  v558
def k0_mult30 (k0_t2 : Fin k0_t2_loop.trips) : BitVec 32 :=
  let c128_i32_184 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v569 : BitVec 32 := Scalar.addi c128_i32_184 v345
  let c128_i32_185 : BitVec 32 := 128#32
  let v570 : BitVec 32 := Scalar.muli v569 c128_i32_185
  let c48_i32_186 : BitVec 32 := 48#32
  let v571 : BitVec 32 := Scalar.addi v570 c48_i32_186
  v571
def k0_mult31 (k0_t2 : Fin k0_t2_loop.trips) : BitVec 32 :=
  let c128_i32_187 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v582 : BitVec 32 := Scalar.addi c128_i32_187 v345
  let c128_i32_188 : BitVec 32 := 128#32
  let v583 : BitVec 32 := Scalar.muli v582 c128_i32_188
  let c64_i32_189 : BitVec 32 := 64#32
  let v584 : BitVec 32 := Scalar.addi v583 c64_i32_189
  v584
def k0_mult32 (k0_t2 : Fin k0_t2_loop.trips) : BitVec 32 :=
  let c128_i32_190 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v595 : BitVec 32 := Scalar.addi c128_i32_190 v345
  let c128_i32_191 : BitVec 32 := 128#32
  let v596 : BitVec 32 := Scalar.muli v595 c128_i32_191
  let c80_i32_192 : BitVec 32 := 80#32
  let v597 : BitVec 32 := Scalar.addi v596 c80_i32_192
  v597
def k0_mult33 (k0_t2 : Fin k0_t2_loop.trips) : BitVec 32 :=
  let c128_i32_193 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v608 : BitVec 32 := Scalar.addi c128_i32_193 v345
  let c128_i32_194 : BitVec 32 := 128#32
  let v609 : BitVec 32 := Scalar.muli v608 c128_i32_194
  let c96_i32_195 : BitVec 32 := 96#32
  let v610 : BitVec 32 := Scalar.addi v609 c96_i32_195
  v610
def k0_mult34 (k0_t2 : Fin k0_t2_loop.trips) : BitVec 32 :=
  let c128_i32_196 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v621 : BitVec 32 := Scalar.addi c128_i32_196 v345
  let c128_i32_197 : BitVec 32 := 128#32
  let v622 : BitVec 32 := Scalar.muli v621 c128_i32_197
  let c112_i32_198 : BitVec 32 := 112#32
  let v623 : BitVec 32 := Scalar.addi v622 c112_i32_198
  v623
def k0_mult35 (k0_t2 : Fin k0_t2_loop.trips) : BitVec 32 :=
  let c0_i32_241 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v712 : BitVec 32 := Scalar.addi c0_i32_241 v635
  let c128_i32_242 : BitVec 32 := 128#32
  let v713 : BitVec 32 := Scalar.muli v712 c128_i32_242
  let c0_i32_243 : BitVec 32 := 0#32
  let v714 : BitVec 32 := Scalar.addi v713 c0_i32_243
  v714
def k0_mult36 (k0_t2 : Fin k0_t2_loop.trips) : BitVec 32 :=
  let c0_i32_244 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v725 : BitVec 32 := Scalar.addi c0_i32_244 v635
  let c128_i32_245 : BitVec 32 := 128#32
  let v726 : BitVec 32 := Scalar.muli v725 c128_i32_245
  let c16_i32_246 : BitVec 32 := 16#32
  let v727 : BitVec 32 := Scalar.addi v726 c16_i32_246
  v727
def k0_mult37 (k0_t2 : Fin k0_t2_loop.trips) : BitVec 32 :=
  let c0_i32_247 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v738 : BitVec 32 := Scalar.addi c0_i32_247 v635
  let c128_i32_248 : BitVec 32 := 128#32
  let v739 : BitVec 32 := Scalar.muli v738 c128_i32_248
  let c32_i32_249 : BitVec 32 := 32#32
  let v740 : BitVec 32 := Scalar.addi v739 c32_i32_249
  v740
def k0_mult38 (k0_t2 : Fin k0_t2_loop.trips) : BitVec 32 :=
  let c0_i32_250 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v751 : BitVec 32 := Scalar.addi c0_i32_250 v635
  let c128_i32_251 : BitVec 32 := 128#32
  let v752 : BitVec 32 := Scalar.muli v751 c128_i32_251
  let c48_i32_252 : BitVec 32 := 48#32
  let v753 : BitVec 32 := Scalar.addi v752 c48_i32_252
  v753
def k0_mult39 (k0_t2 : Fin k0_t2_loop.trips) : BitVec 32 :=
  let c0_i32_253 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v764 : BitVec 32 := Scalar.addi c0_i32_253 v635
  let c128_i32_254 : BitVec 32 := 128#32
  let v765 : BitVec 32 := Scalar.muli v764 c128_i32_254
  let c64_i32_255 : BitVec 32 := 64#32
  let v766 : BitVec 32 := Scalar.addi v765 c64_i32_255
  v766
def k0_mult40 (k0_t2 : Fin k0_t2_loop.trips) : BitVec 32 :=
  let c0_i32_256 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v777 : BitVec 32 := Scalar.addi c0_i32_256 v635
  let c128_i32_257 : BitVec 32 := 128#32
  let v778 : BitVec 32 := Scalar.muli v777 c128_i32_257
  let c80_i32_258 : BitVec 32 := 80#32
  let v779 : BitVec 32 := Scalar.addi v778 c80_i32_258
  v779
def k0_mult41 (k0_t2 : Fin k0_t2_loop.trips) : BitVec 32 :=
  let c0_i32_259 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v790 : BitVec 32 := Scalar.addi c0_i32_259 v635
  let c128_i32_260 : BitVec 32 := 128#32
  let v791 : BitVec 32 := Scalar.muli v790 c128_i32_260
  let c96_i32_261 : BitVec 32 := 96#32
  let v792 : BitVec 32 := Scalar.addi v791 c96_i32_261
  v792
def k0_mult42 (k0_t2 : Fin k0_t2_loop.trips) : BitVec 32 :=
  let c0_i32_262 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v803 : BitVec 32 := Scalar.addi c0_i32_262 v635
  let c128_i32_263 : BitVec 32 := 128#32
  let v804 : BitVec 32 := Scalar.muli v803 c128_i32_263
  let c112_i32_264 : BitVec 32 := 112#32
  let v805 : BitVec 32 := Scalar.addi v804 c112_i32_264
  v805
def k0_mult43 (k0_t2 : Fin k0_t2_loop.trips) : BitVec 32 :=
  let c128_i32_265 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v820 : BitVec 32 := Scalar.addi c128_i32_265 v635
  let c128_i32_266 : BitVec 32 := 128#32
  let v821 : BitVec 32 := Scalar.muli v820 c128_i32_266
  let c0_i32_267 : BitVec 32 := 0#32
  let v822 : BitVec 32 := Scalar.addi v821 c0_i32_267
  v822
def k0_mult44 (k0_t2 : Fin k0_t2_loop.trips) : BitVec 32 :=
  let c128_i32_268 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v833 : BitVec 32 := Scalar.addi c128_i32_268 v635
  let c128_i32_269 : BitVec 32 := 128#32
  let v834 : BitVec 32 := Scalar.muli v833 c128_i32_269
  let c16_i32_270 : BitVec 32 := 16#32
  let v835 : BitVec 32 := Scalar.addi v834 c16_i32_270
  v835
def k0_mult45 (k0_t2 : Fin k0_t2_loop.trips) : BitVec 32 :=
  let c128_i32_271 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v846 : BitVec 32 := Scalar.addi c128_i32_271 v635
  let c128_i32_272 : BitVec 32 := 128#32
  let v847 : BitVec 32 := Scalar.muli v846 c128_i32_272
  let c32_i32_273 : BitVec 32 := 32#32
  let v848 : BitVec 32 := Scalar.addi v847 c32_i32_273
  v848
def k0_mult46 (k0_t2 : Fin k0_t2_loop.trips) : BitVec 32 :=
  let c128_i32_274 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v859 : BitVec 32 := Scalar.addi c128_i32_274 v635
  let c128_i32_275 : BitVec 32 := 128#32
  let v860 : BitVec 32 := Scalar.muli v859 c128_i32_275
  let c48_i32_276 : BitVec 32 := 48#32
  let v861 : BitVec 32 := Scalar.addi v860 c48_i32_276
  v861
def k0_mult47 (k0_t2 : Fin k0_t2_loop.trips) : BitVec 32 :=
  let c128_i32_277 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v872 : BitVec 32 := Scalar.addi c128_i32_277 v635
  let c128_i32_278 : BitVec 32 := 128#32
  let v873 : BitVec 32 := Scalar.muli v872 c128_i32_278
  let c64_i32_279 : BitVec 32 := 64#32
  let v874 : BitVec 32 := Scalar.addi v873 c64_i32_279
  v874
def k0_mult48 (k0_t2 : Fin k0_t2_loop.trips) : BitVec 32 :=
  let c128_i32_280 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v885 : BitVec 32 := Scalar.addi c128_i32_280 v635
  let c128_i32_281 : BitVec 32 := 128#32
  let v886 : BitVec 32 := Scalar.muli v885 c128_i32_281
  let c80_i32_282 : BitVec 32 := 80#32
  let v887 : BitVec 32 := Scalar.addi v886 c80_i32_282
  v887
def k0_mult49 (k0_t2 : Fin k0_t2_loop.trips) : BitVec 32 :=
  let c128_i32_283 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v898 : BitVec 32 := Scalar.addi c128_i32_283 v635
  let c128_i32_284 : BitVec 32 := 128#32
  let v899 : BitVec 32 := Scalar.muli v898 c128_i32_284
  let c96_i32_285 : BitVec 32 := 96#32
  let v900 : BitVec 32 := Scalar.addi v899 c96_i32_285
  v900
def k0_mult50 (k0_t2 : Fin k0_t2_loop.trips) : BitVec 32 :=
  let c128_i32_286 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v911 : BitVec 32 := Scalar.addi c128_i32_286 v635
  let c128_i32_287 : BitVec 32 := 128#32
  let v912 : BitVec 32 := Scalar.muli v911 c128_i32_287
  let c112_i32_288 : BitVec 32 := 112#32
  let v913 : BitVec 32 := Scalar.addi v912 c112_i32_288
  v913
def k0_mult51 (k0_t2 : Fin k0_t2_loop.trips) : BitVec 32 :=
  let c0_i32_330 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1002 : BitVec 32 := Scalar.addi c0_i32_330 v925
  let c128_i32_331 : BitVec 32 := 128#32
  let v1003 : BitVec 32 := Scalar.muli v1002 c128_i32_331
  let c0_i32_332 : BitVec 32 := 0#32
  let v1004 : BitVec 32 := Scalar.addi v1003 c0_i32_332
  v1004
def k0_mult52 (k0_t2 : Fin k0_t2_loop.trips) : BitVec 32 :=
  let c0_i32_333 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1015 : BitVec 32 := Scalar.addi c0_i32_333 v925
  let c128_i32_334 : BitVec 32 := 128#32
  let v1016 : BitVec 32 := Scalar.muli v1015 c128_i32_334
  let c16_i32_335 : BitVec 32 := 16#32
  let v1017 : BitVec 32 := Scalar.addi v1016 c16_i32_335
  v1017
def k0_mult53 (k0_t2 : Fin k0_t2_loop.trips) : BitVec 32 :=
  let c0_i32_336 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1028 : BitVec 32 := Scalar.addi c0_i32_336 v925
  let c128_i32_337 : BitVec 32 := 128#32
  let v1029 : BitVec 32 := Scalar.muli v1028 c128_i32_337
  let c32_i32_338 : BitVec 32 := 32#32
  let v1030 : BitVec 32 := Scalar.addi v1029 c32_i32_338
  v1030
def k0_mult54 (k0_t2 : Fin k0_t2_loop.trips) : BitVec 32 :=
  let c0_i32_339 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1041 : BitVec 32 := Scalar.addi c0_i32_339 v925
  let c128_i32_340 : BitVec 32 := 128#32
  let v1042 : BitVec 32 := Scalar.muli v1041 c128_i32_340
  let c48_i32_341 : BitVec 32 := 48#32
  let v1043 : BitVec 32 := Scalar.addi v1042 c48_i32_341
  v1043
def k0_mult55 (k0_t2 : Fin k0_t2_loop.trips) : BitVec 32 :=
  let c0_i32_342 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1054 : BitVec 32 := Scalar.addi c0_i32_342 v925
  let c128_i32_343 : BitVec 32 := 128#32
  let v1055 : BitVec 32 := Scalar.muli v1054 c128_i32_343
  let c64_i32_344 : BitVec 32 := 64#32
  let v1056 : BitVec 32 := Scalar.addi v1055 c64_i32_344
  v1056
def k0_mult56 (k0_t2 : Fin k0_t2_loop.trips) : BitVec 32 :=
  let c0_i32_345 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1067 : BitVec 32 := Scalar.addi c0_i32_345 v925
  let c128_i32_346 : BitVec 32 := 128#32
  let v1068 : BitVec 32 := Scalar.muli v1067 c128_i32_346
  let c80_i32_347 : BitVec 32 := 80#32
  let v1069 : BitVec 32 := Scalar.addi v1068 c80_i32_347
  v1069
def k0_mult57 (k0_t2 : Fin k0_t2_loop.trips) : BitVec 32 :=
  let c0_i32_348 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1080 : BitVec 32 := Scalar.addi c0_i32_348 v925
  let c128_i32_349 : BitVec 32 := 128#32
  let v1081 : BitVec 32 := Scalar.muli v1080 c128_i32_349
  let c96_i32_350 : BitVec 32 := 96#32
  let v1082 : BitVec 32 := Scalar.addi v1081 c96_i32_350
  v1082
def k0_mult58 (k0_t2 : Fin k0_t2_loop.trips) : BitVec 32 :=
  let c0_i32_351 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1093 : BitVec 32 := Scalar.addi c0_i32_351 v925
  let c128_i32_352 : BitVec 32 := 128#32
  let v1094 : BitVec 32 := Scalar.muli v1093 c128_i32_352
  let c112_i32_353 : BitVec 32 := 112#32
  let v1095 : BitVec 32 := Scalar.addi v1094 c112_i32_353
  v1095
def k0_mult59 (k0_t2 : Fin k0_t2_loop.trips) : BitVec 32 :=
  let c128_i32_354 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1110 : BitVec 32 := Scalar.addi c128_i32_354 v925
  let c128_i32_355 : BitVec 32 := 128#32
  let v1111 : BitVec 32 := Scalar.muli v1110 c128_i32_355
  let c0_i32_356 : BitVec 32 := 0#32
  let v1112 : BitVec 32 := Scalar.addi v1111 c0_i32_356
  v1112
def k0_mult60 (k0_t2 : Fin k0_t2_loop.trips) : BitVec 32 :=
  let c128_i32_357 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1123 : BitVec 32 := Scalar.addi c128_i32_357 v925
  let c128_i32_358 : BitVec 32 := 128#32
  let v1124 : BitVec 32 := Scalar.muli v1123 c128_i32_358
  let c16_i32_359 : BitVec 32 := 16#32
  let v1125 : BitVec 32 := Scalar.addi v1124 c16_i32_359
  v1125
def k0_mult61 (k0_t2 : Fin k0_t2_loop.trips) : BitVec 32 :=
  let c128_i32_360 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1136 : BitVec 32 := Scalar.addi c128_i32_360 v925
  let c128_i32_361 : BitVec 32 := 128#32
  let v1137 : BitVec 32 := Scalar.muli v1136 c128_i32_361
  let c32_i32_362 : BitVec 32 := 32#32
  let v1138 : BitVec 32 := Scalar.addi v1137 c32_i32_362
  v1138
def k0_mult62 (k0_t2 : Fin k0_t2_loop.trips) : BitVec 32 :=
  let c128_i32_363 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1149 : BitVec 32 := Scalar.addi c128_i32_363 v925
  let c128_i32_364 : BitVec 32 := 128#32
  let v1150 : BitVec 32 := Scalar.muli v1149 c128_i32_364
  let c48_i32_365 : BitVec 32 := 48#32
  let v1151 : BitVec 32 := Scalar.addi v1150 c48_i32_365
  v1151
def k0_mult63 (k0_t2 : Fin k0_t2_loop.trips) : BitVec 32 :=
  let c128_i32_366 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1162 : BitVec 32 := Scalar.addi c128_i32_366 v925
  let c128_i32_367 : BitVec 32 := 128#32
  let v1163 : BitVec 32 := Scalar.muli v1162 c128_i32_367
  let c64_i32_368 : BitVec 32 := 64#32
  let v1164 : BitVec 32 := Scalar.addi v1163 c64_i32_368
  v1164
def k0_mult64 (k0_t2 : Fin k0_t2_loop.trips) : BitVec 32 :=
  let c128_i32_369 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1175 : BitVec 32 := Scalar.addi c128_i32_369 v925
  let c128_i32_370 : BitVec 32 := 128#32
  let v1176 : BitVec 32 := Scalar.muli v1175 c128_i32_370
  let c80_i32_371 : BitVec 32 := 80#32
  let v1177 : BitVec 32 := Scalar.addi v1176 c80_i32_371
  v1177
def k0_mult65 (k0_t2 : Fin k0_t2_loop.trips) : BitVec 32 :=
  let c128_i32_372 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1188 : BitVec 32 := Scalar.addi c128_i32_372 v925
  let c128_i32_373 : BitVec 32 := 128#32
  let v1189 : BitVec 32 := Scalar.muli v1188 c128_i32_373
  let c96_i32_374 : BitVec 32 := 96#32
  let v1190 : BitVec 32 := Scalar.addi v1189 c96_i32_374
  v1190
def k0_mult66 (k0_t2 : Fin k0_t2_loop.trips) : BitVec 32 :=
  let c128_i32_375 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1201 : BitVec 32 := Scalar.addi c128_i32_375 v925
  let c128_i32_376 : BitVec 32 := 128#32
  let v1202 : BitVec 32 := Scalar.muli v1201 c128_i32_376
  let c112_i32_377 : BitVec 32 := 112#32
  let v1203 : BitVec 32 := Scalar.addi v1202 c112_i32_377
  v1203
def k0_mult67 (k0_t2 : Fin k0_t2_loop.trips) : BitVec 32 :=
  let c0_i32_419 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1292 : BitVec 32 := Scalar.addi c0_i32_419 v1215
  let c128_i32_420 : BitVec 32 := 128#32
  let v1293 : BitVec 32 := Scalar.muli v1292 c128_i32_420
  let c0_i32_421 : BitVec 32 := 0#32
  let v1294 : BitVec 32 := Scalar.addi v1293 c0_i32_421
  v1294
def k0_mult68 (k0_t2 : Fin k0_t2_loop.trips) : BitVec 32 :=
  let c0_i32_422 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1305 : BitVec 32 := Scalar.addi c0_i32_422 v1215
  let c128_i32_423 : BitVec 32 := 128#32
  let v1306 : BitVec 32 := Scalar.muli v1305 c128_i32_423
  let c16_i32_424 : BitVec 32 := 16#32
  let v1307 : BitVec 32 := Scalar.addi v1306 c16_i32_424
  v1307
def k0_mult69 (k0_t2 : Fin k0_t2_loop.trips) : BitVec 32 :=
  let c0_i32_425 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1318 : BitVec 32 := Scalar.addi c0_i32_425 v1215
  let c128_i32_426 : BitVec 32 := 128#32
  let v1319 : BitVec 32 := Scalar.muli v1318 c128_i32_426
  let c32_i32_427 : BitVec 32 := 32#32
  let v1320 : BitVec 32 := Scalar.addi v1319 c32_i32_427
  v1320
def k0_mult70 (k0_t2 : Fin k0_t2_loop.trips) : BitVec 32 :=
  let c0_i32_428 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1331 : BitVec 32 := Scalar.addi c0_i32_428 v1215
  let c128_i32_429 : BitVec 32 := 128#32
  let v1332 : BitVec 32 := Scalar.muli v1331 c128_i32_429
  let c48_i32_430 : BitVec 32 := 48#32
  let v1333 : BitVec 32 := Scalar.addi v1332 c48_i32_430
  v1333
def k0_mult71 (k0_t2 : Fin k0_t2_loop.trips) : BitVec 32 :=
  let c0_i32_431 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1344 : BitVec 32 := Scalar.addi c0_i32_431 v1215
  let c128_i32_432 : BitVec 32 := 128#32
  let v1345 : BitVec 32 := Scalar.muli v1344 c128_i32_432
  let c64_i32_433 : BitVec 32 := 64#32
  let v1346 : BitVec 32 := Scalar.addi v1345 c64_i32_433
  v1346
def k0_mult72 (k0_t2 : Fin k0_t2_loop.trips) : BitVec 32 :=
  let c0_i32_434 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1357 : BitVec 32 := Scalar.addi c0_i32_434 v1215
  let c128_i32_435 : BitVec 32 := 128#32
  let v1358 : BitVec 32 := Scalar.muli v1357 c128_i32_435
  let c80_i32_436 : BitVec 32 := 80#32
  let v1359 : BitVec 32 := Scalar.addi v1358 c80_i32_436
  v1359
def k0_mult73 (k0_t2 : Fin k0_t2_loop.trips) : BitVec 32 :=
  let c0_i32_437 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1370 : BitVec 32 := Scalar.addi c0_i32_437 v1215
  let c128_i32_438 : BitVec 32 := 128#32
  let v1371 : BitVec 32 := Scalar.muli v1370 c128_i32_438
  let c96_i32_439 : BitVec 32 := 96#32
  let v1372 : BitVec 32 := Scalar.addi v1371 c96_i32_439
  v1372
def k0_mult74 (k0_t2 : Fin k0_t2_loop.trips) : BitVec 32 :=
  let c0_i32_440 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1383 : BitVec 32 := Scalar.addi c0_i32_440 v1215
  let c128_i32_441 : BitVec 32 := 128#32
  let v1384 : BitVec 32 := Scalar.muli v1383 c128_i32_441
  let c112_i32_442 : BitVec 32 := 112#32
  let v1385 : BitVec 32 := Scalar.addi v1384 c112_i32_442
  v1385
def k0_mult75 (k0_t2 : Fin k0_t2_loop.trips) : BitVec 32 :=
  let c128_i32_443 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1400 : BitVec 32 := Scalar.addi c128_i32_443 v1215
  let c128_i32_444 : BitVec 32 := 128#32
  let v1401 : BitVec 32 := Scalar.muli v1400 c128_i32_444
  let c0_i32_445 : BitVec 32 := 0#32
  let v1402 : BitVec 32 := Scalar.addi v1401 c0_i32_445
  v1402
def k0_mult76 (k0_t2 : Fin k0_t2_loop.trips) : BitVec 32 :=
  let c128_i32_446 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1413 : BitVec 32 := Scalar.addi c128_i32_446 v1215
  let c128_i32_447 : BitVec 32 := 128#32
  let v1414 : BitVec 32 := Scalar.muli v1413 c128_i32_447
  let c16_i32_448 : BitVec 32 := 16#32
  let v1415 : BitVec 32 := Scalar.addi v1414 c16_i32_448
  v1415
def k0_mult77 (k0_t2 : Fin k0_t2_loop.trips) : BitVec 32 :=
  let c128_i32_449 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1426 : BitVec 32 := Scalar.addi c128_i32_449 v1215
  let c128_i32_450 : BitVec 32 := 128#32
  let v1427 : BitVec 32 := Scalar.muli v1426 c128_i32_450
  let c32_i32_451 : BitVec 32 := 32#32
  let v1428 : BitVec 32 := Scalar.addi v1427 c32_i32_451
  v1428
def k0_mult78 (k0_t2 : Fin k0_t2_loop.trips) : BitVec 32 :=
  let c128_i32_452 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1439 : BitVec 32 := Scalar.addi c128_i32_452 v1215
  let c128_i32_453 : BitVec 32 := 128#32
  let v1440 : BitVec 32 := Scalar.muli v1439 c128_i32_453
  let c48_i32_454 : BitVec 32 := 48#32
  let v1441 : BitVec 32 := Scalar.addi v1440 c48_i32_454
  v1441
def k0_mult79 (k0_t2 : Fin k0_t2_loop.trips) : BitVec 32 :=
  let c128_i32_455 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1452 : BitVec 32 := Scalar.addi c128_i32_455 v1215
  let c128_i32_456 : BitVec 32 := 128#32
  let v1453 : BitVec 32 := Scalar.muli v1452 c128_i32_456
  let c64_i32_457 : BitVec 32 := 64#32
  let v1454 : BitVec 32 := Scalar.addi v1453 c64_i32_457
  v1454
def k0_mult80 (k0_t2 : Fin k0_t2_loop.trips) : BitVec 32 :=
  let c128_i32_458 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1465 : BitVec 32 := Scalar.addi c128_i32_458 v1215
  let c128_i32_459 : BitVec 32 := 128#32
  let v1466 : BitVec 32 := Scalar.muli v1465 c128_i32_459
  let c80_i32_460 : BitVec 32 := 80#32
  let v1467 : BitVec 32 := Scalar.addi v1466 c80_i32_460
  v1467
def k0_mult81 (k0_t2 : Fin k0_t2_loop.trips) : BitVec 32 :=
  let c128_i32_461 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1478 : BitVec 32 := Scalar.addi c128_i32_461 v1215
  let c128_i32_462 : BitVec 32 := 128#32
  let v1479 : BitVec 32 := Scalar.muli v1478 c128_i32_462
  let c96_i32_463 : BitVec 32 := 96#32
  let v1480 : BitVec 32 := Scalar.addi v1479 c96_i32_463
  v1480
def k0_mult82 (k0_t2 : Fin k0_t2_loop.trips) : BitVec 32 :=
  let c128_i32_464 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1491 : BitVec 32 := Scalar.addi c128_i32_464 v1215
  let c128_i32_465 : BitVec 32 := 128#32
  let v1492 : BitVec 32 := Scalar.muli v1491 c128_i32_465
  let c112_i32_466 : BitVec 32 := 112#32
  let v1493 : BitVec 32 := Scalar.addi v1492 c112_i32_466
  v1493
def k0_mult83 (k0_t2 : Fin k0_t2_loop.trips) : BitVec 32 :=
  let c0_i32_508 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1582 : BitVec 32 := Scalar.addi c0_i32_508 v1505
  let c128_i32_509 : BitVec 32 := 128#32
  let v1583 : BitVec 32 := Scalar.muli v1582 c128_i32_509
  let c0_i32_510 : BitVec 32 := 0#32
  let v1584 : BitVec 32 := Scalar.addi v1583 c0_i32_510
  v1584
def k0_mult84 (k0_t2 : Fin k0_t2_loop.trips) : BitVec 32 :=
  let c0_i32_511 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1595 : BitVec 32 := Scalar.addi c0_i32_511 v1505
  let c128_i32_512 : BitVec 32 := 128#32
  let v1596 : BitVec 32 := Scalar.muli v1595 c128_i32_512
  let c16_i32_513 : BitVec 32 := 16#32
  let v1597 : BitVec 32 := Scalar.addi v1596 c16_i32_513
  v1597
def k0_mult85 (k0_t2 : Fin k0_t2_loop.trips) : BitVec 32 :=
  let c0_i32_514 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1608 : BitVec 32 := Scalar.addi c0_i32_514 v1505
  let c128_i32_515 : BitVec 32 := 128#32
  let v1609 : BitVec 32 := Scalar.muli v1608 c128_i32_515
  let c32_i32_516 : BitVec 32 := 32#32
  let v1610 : BitVec 32 := Scalar.addi v1609 c32_i32_516
  v1610
def k0_mult86 (k0_t2 : Fin k0_t2_loop.trips) : BitVec 32 :=
  let c0_i32_517 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1621 : BitVec 32 := Scalar.addi c0_i32_517 v1505
  let c128_i32_518 : BitVec 32 := 128#32
  let v1622 : BitVec 32 := Scalar.muli v1621 c128_i32_518
  let c48_i32_519 : BitVec 32 := 48#32
  let v1623 : BitVec 32 := Scalar.addi v1622 c48_i32_519
  v1623
def k0_mult87 (k0_t2 : Fin k0_t2_loop.trips) : BitVec 32 :=
  let c0_i32_520 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1634 : BitVec 32 := Scalar.addi c0_i32_520 v1505
  let c128_i32_521 : BitVec 32 := 128#32
  let v1635 : BitVec 32 := Scalar.muli v1634 c128_i32_521
  let c64_i32_522 : BitVec 32 := 64#32
  let v1636 : BitVec 32 := Scalar.addi v1635 c64_i32_522
  v1636
def k0_mult88 (k0_t2 : Fin k0_t2_loop.trips) : BitVec 32 :=
  let c0_i32_523 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1647 : BitVec 32 := Scalar.addi c0_i32_523 v1505
  let c128_i32_524 : BitVec 32 := 128#32
  let v1648 : BitVec 32 := Scalar.muli v1647 c128_i32_524
  let c80_i32_525 : BitVec 32 := 80#32
  let v1649 : BitVec 32 := Scalar.addi v1648 c80_i32_525
  v1649
def k0_mult89 (k0_t2 : Fin k0_t2_loop.trips) : BitVec 32 :=
  let c0_i32_526 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1660 : BitVec 32 := Scalar.addi c0_i32_526 v1505
  let c128_i32_527 : BitVec 32 := 128#32
  let v1661 : BitVec 32 := Scalar.muli v1660 c128_i32_527
  let c96_i32_528 : BitVec 32 := 96#32
  let v1662 : BitVec 32 := Scalar.addi v1661 c96_i32_528
  v1662
def k0_mult90 (k0_t2 : Fin k0_t2_loop.trips) : BitVec 32 :=
  let c0_i32_529 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1673 : BitVec 32 := Scalar.addi c0_i32_529 v1505
  let c128_i32_530 : BitVec 32 := 128#32
  let v1674 : BitVec 32 := Scalar.muli v1673 c128_i32_530
  let c112_i32_531 : BitVec 32 := 112#32
  let v1675 : BitVec 32 := Scalar.addi v1674 c112_i32_531
  v1675
def k0_mult91 (k0_t2 : Fin k0_t2_loop.trips) : BitVec 32 :=
  let c128_i32_532 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1690 : BitVec 32 := Scalar.addi c128_i32_532 v1505
  let c128_i32_533 : BitVec 32 := 128#32
  let v1691 : BitVec 32 := Scalar.muli v1690 c128_i32_533
  let c0_i32_534 : BitVec 32 := 0#32
  let v1692 : BitVec 32 := Scalar.addi v1691 c0_i32_534
  v1692
def k0_mult92 (k0_t2 : Fin k0_t2_loop.trips) : BitVec 32 :=
  let c128_i32_535 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1703 : BitVec 32 := Scalar.addi c128_i32_535 v1505
  let c128_i32_536 : BitVec 32 := 128#32
  let v1704 : BitVec 32 := Scalar.muli v1703 c128_i32_536
  let c16_i32_537 : BitVec 32 := 16#32
  let v1705 : BitVec 32 := Scalar.addi v1704 c16_i32_537
  v1705
def k0_mult93 (k0_t2 : Fin k0_t2_loop.trips) : BitVec 32 :=
  let c128_i32_538 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1716 : BitVec 32 := Scalar.addi c128_i32_538 v1505
  let c128_i32_539 : BitVec 32 := 128#32
  let v1717 : BitVec 32 := Scalar.muli v1716 c128_i32_539
  let c32_i32_540 : BitVec 32 := 32#32
  let v1718 : BitVec 32 := Scalar.addi v1717 c32_i32_540
  v1718
def k0_mult94 (k0_t2 : Fin k0_t2_loop.trips) : BitVec 32 :=
  let c128_i32_541 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1729 : BitVec 32 := Scalar.addi c128_i32_541 v1505
  let c128_i32_542 : BitVec 32 := 128#32
  let v1730 : BitVec 32 := Scalar.muli v1729 c128_i32_542
  let c48_i32_543 : BitVec 32 := 48#32
  let v1731 : BitVec 32 := Scalar.addi v1730 c48_i32_543
  v1731
def k0_mult95 (k0_t2 : Fin k0_t2_loop.trips) : BitVec 32 :=
  let c128_i32_544 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1742 : BitVec 32 := Scalar.addi c128_i32_544 v1505
  let c128_i32_545 : BitVec 32 := 128#32
  let v1743 : BitVec 32 := Scalar.muli v1742 c128_i32_545
  let c64_i32_546 : BitVec 32 := 64#32
  let v1744 : BitVec 32 := Scalar.addi v1743 c64_i32_546
  v1744
def k0_mult96 (k0_t2 : Fin k0_t2_loop.trips) : BitVec 32 :=
  let c128_i32_547 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1755 : BitVec 32 := Scalar.addi c128_i32_547 v1505
  let c128_i32_548 : BitVec 32 := 128#32
  let v1756 : BitVec 32 := Scalar.muli v1755 c128_i32_548
  let c80_i32_549 : BitVec 32 := 80#32
  let v1757 : BitVec 32 := Scalar.addi v1756 c80_i32_549
  v1757
def k0_mult97 (k0_t2 : Fin k0_t2_loop.trips) : BitVec 32 :=
  let c128_i32_550 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1768 : BitVec 32 := Scalar.addi c128_i32_550 v1505
  let c128_i32_551 : BitVec 32 := 128#32
  let v1769 : BitVec 32 := Scalar.muli v1768 c128_i32_551
  let c96_i32_552 : BitVec 32 := 96#32
  let v1770 : BitVec 32 := Scalar.addi v1769 c96_i32_552
  v1770
def k0_mult98 (k0_t2 : Fin k0_t2_loop.trips) : BitVec 32 :=
  let c128_i32_553 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1781 : BitVec 32 := Scalar.addi c128_i32_553 v1505
  let c128_i32_554 : BitVec 32 := 128#32
  let v1782 : BitVec 32 := Scalar.muli v1781 c128_i32_554
  let c112_i32_555 : BitVec 32 := 112#32
  let v1783 : BitVec 32 := Scalar.addi v1782 c112_i32_555
  v1783
def k0_mult99 (k0_t2 : Fin k0_t2_loop.trips) : BitVec 32 :=
  let c0_i32_597 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1872 : BitVec 32 := Scalar.addi c0_i32_597 v1795
  let c128_i32_598 : BitVec 32 := 128#32
  let v1873 : BitVec 32 := Scalar.muli v1872 c128_i32_598
  let c0_i32_599 : BitVec 32 := 0#32
  let v1874 : BitVec 32 := Scalar.addi v1873 c0_i32_599
  v1874
def k0_mult100 (k0_t2 : Fin k0_t2_loop.trips) : BitVec 32 :=
  let c0_i32_600 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1885 : BitVec 32 := Scalar.addi c0_i32_600 v1795
  let c128_i32_601 : BitVec 32 := 128#32
  let v1886 : BitVec 32 := Scalar.muli v1885 c128_i32_601
  let c16_i32_602 : BitVec 32 := 16#32
  let v1887 : BitVec 32 := Scalar.addi v1886 c16_i32_602
  v1887
def k0_mult101 (k0_t2 : Fin k0_t2_loop.trips) : BitVec 32 :=
  let c0_i32_603 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1898 : BitVec 32 := Scalar.addi c0_i32_603 v1795
  let c128_i32_604 : BitVec 32 := 128#32
  let v1899 : BitVec 32 := Scalar.muli v1898 c128_i32_604
  let c32_i32_605 : BitVec 32 := 32#32
  let v1900 : BitVec 32 := Scalar.addi v1899 c32_i32_605
  v1900
def k0_mult102 (k0_t2 : Fin k0_t2_loop.trips) : BitVec 32 :=
  let c0_i32_606 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1911 : BitVec 32 := Scalar.addi c0_i32_606 v1795
  let c128_i32_607 : BitVec 32 := 128#32
  let v1912 : BitVec 32 := Scalar.muli v1911 c128_i32_607
  let c48_i32_608 : BitVec 32 := 48#32
  let v1913 : BitVec 32 := Scalar.addi v1912 c48_i32_608
  v1913
def k0_mult103 (k0_t2 : Fin k0_t2_loop.trips) : BitVec 32 :=
  let c0_i32_609 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1924 : BitVec 32 := Scalar.addi c0_i32_609 v1795
  let c128_i32_610 : BitVec 32 := 128#32
  let v1925 : BitVec 32 := Scalar.muli v1924 c128_i32_610
  let c64_i32_611 : BitVec 32 := 64#32
  let v1926 : BitVec 32 := Scalar.addi v1925 c64_i32_611
  v1926
def k0_mult104 (k0_t2 : Fin k0_t2_loop.trips) : BitVec 32 :=
  let c0_i32_612 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1937 : BitVec 32 := Scalar.addi c0_i32_612 v1795
  let c128_i32_613 : BitVec 32 := 128#32
  let v1938 : BitVec 32 := Scalar.muli v1937 c128_i32_613
  let c80_i32_614 : BitVec 32 := 80#32
  let v1939 : BitVec 32 := Scalar.addi v1938 c80_i32_614
  v1939
def k0_mult105 (k0_t2 : Fin k0_t2_loop.trips) : BitVec 32 :=
  let c0_i32_615 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1950 : BitVec 32 := Scalar.addi c0_i32_615 v1795
  let c128_i32_616 : BitVec 32 := 128#32
  let v1951 : BitVec 32 := Scalar.muli v1950 c128_i32_616
  let c96_i32_617 : BitVec 32 := 96#32
  let v1952 : BitVec 32 := Scalar.addi v1951 c96_i32_617
  v1952
def k0_mult106 (k0_t2 : Fin k0_t2_loop.trips) : BitVec 32 :=
  let c0_i32_618 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1963 : BitVec 32 := Scalar.addi c0_i32_618 v1795
  let c128_i32_619 : BitVec 32 := 128#32
  let v1964 : BitVec 32 := Scalar.muli v1963 c128_i32_619
  let c112_i32_620 : BitVec 32 := 112#32
  let v1965 : BitVec 32 := Scalar.addi v1964 c112_i32_620
  v1965
def k0_mult107 (k0_t2 : Fin k0_t2_loop.trips) : BitVec 32 :=
  let c128_i32_621 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1980 : BitVec 32 := Scalar.addi c128_i32_621 v1795
  let c128_i32_622 : BitVec 32 := 128#32
  let v1981 : BitVec 32 := Scalar.muli v1980 c128_i32_622
  let c0_i32_623 : BitVec 32 := 0#32
  let v1982 : BitVec 32 := Scalar.addi v1981 c0_i32_623
  v1982
def k0_mult108 (k0_t2 : Fin k0_t2_loop.trips) : BitVec 32 :=
  let c128_i32_624 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1993 : BitVec 32 := Scalar.addi c128_i32_624 v1795
  let c128_i32_625 : BitVec 32 := 128#32
  let v1994 : BitVec 32 := Scalar.muli v1993 c128_i32_625
  let c16_i32_626 : BitVec 32 := 16#32
  let v1995 : BitVec 32 := Scalar.addi v1994 c16_i32_626
  v1995
def k0_mult109 (k0_t2 : Fin k0_t2_loop.trips) : BitVec 32 :=
  let c128_i32_627 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v2006 : BitVec 32 := Scalar.addi c128_i32_627 v1795
  let c128_i32_628 : BitVec 32 := 128#32
  let v2007 : BitVec 32 := Scalar.muli v2006 c128_i32_628
  let c32_i32_629 : BitVec 32 := 32#32
  let v2008 : BitVec 32 := Scalar.addi v2007 c32_i32_629
  v2008
def k0_mult110 (k0_t2 : Fin k0_t2_loop.trips) : BitVec 32 :=
  let c128_i32_630 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v2019 : BitVec 32 := Scalar.addi c128_i32_630 v1795
  let c128_i32_631 : BitVec 32 := 128#32
  let v2020 : BitVec 32 := Scalar.muli v2019 c128_i32_631
  let c48_i32_632 : BitVec 32 := 48#32
  let v2021 : BitVec 32 := Scalar.addi v2020 c48_i32_632
  v2021
def k0_mult111 (k0_t2 : Fin k0_t2_loop.trips) : BitVec 32 :=
  let c128_i32_633 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v2032 : BitVec 32 := Scalar.addi c128_i32_633 v1795
  let c128_i32_634 : BitVec 32 := 128#32
  let v2033 : BitVec 32 := Scalar.muli v2032 c128_i32_634
  let c64_i32_635 : BitVec 32 := 64#32
  let v2034 : BitVec 32 := Scalar.addi v2033 c64_i32_635
  v2034
def k0_mult112 (k0_t2 : Fin k0_t2_loop.trips) : BitVec 32 :=
  let c128_i32_636 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v2045 : BitVec 32 := Scalar.addi c128_i32_636 v1795
  let c128_i32_637 : BitVec 32 := 128#32
  let v2046 : BitVec 32 := Scalar.muli v2045 c128_i32_637
  let c80_i32_638 : BitVec 32 := 80#32
  let v2047 : BitVec 32 := Scalar.addi v2046 c80_i32_638
  v2047
def k0_mult113 (k0_t2 : Fin k0_t2_loop.trips) : BitVec 32 :=
  let c128_i32_639 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v2058 : BitVec 32 := Scalar.addi c128_i32_639 v1795
  let c128_i32_640 : BitVec 32 := 128#32
  let v2059 : BitVec 32 := Scalar.muli v2058 c128_i32_640
  let c96_i32_641 : BitVec 32 := 96#32
  let v2060 : BitVec 32 := Scalar.addi v2059 c96_i32_641
  v2060
def k0_mult114 (k0_t2 : Fin k0_t2_loop.trips) : BitVec 32 :=
  let c128_i32_642 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v2071 : BitVec 32 := Scalar.addi c128_i32_642 v1795
  let c128_i32_643 : BitVec 32 := 128#32
  let v2072 : BitVec 32 := Scalar.muli v2071 c128_i32_643
  let c112_i32_644 : BitVec 32 := 112#32
  let v2073 : BitVec 32 := Scalar.addi v2072 c112_i32_644
  v2073
def k0_mult115 (k0_t2 : Fin k0_t2_loop.trips) : BitVec 32 :=
  let c0_i32_686 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2162 : BitVec 32 := Scalar.addi c0_i32_686 v2085
  let c128_i32_687 : BitVec 32 := 128#32
  let v2163 : BitVec 32 := Scalar.muli v2162 c128_i32_687
  let c0_i32_688 : BitVec 32 := 0#32
  let v2164 : BitVec 32 := Scalar.addi v2163 c0_i32_688
  v2164
def k0_mult116 (k0_t2 : Fin k0_t2_loop.trips) : BitVec 32 :=
  let c0_i32_689 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2175 : BitVec 32 := Scalar.addi c0_i32_689 v2085
  let c128_i32_690 : BitVec 32 := 128#32
  let v2176 : BitVec 32 := Scalar.muli v2175 c128_i32_690
  let c16_i32_691 : BitVec 32 := 16#32
  let v2177 : BitVec 32 := Scalar.addi v2176 c16_i32_691
  v2177
def k0_mult117 (k0_t2 : Fin k0_t2_loop.trips) : BitVec 32 :=
  let c0_i32_692 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2188 : BitVec 32 := Scalar.addi c0_i32_692 v2085
  let c128_i32_693 : BitVec 32 := 128#32
  let v2189 : BitVec 32 := Scalar.muli v2188 c128_i32_693
  let c32_i32_694 : BitVec 32 := 32#32
  let v2190 : BitVec 32 := Scalar.addi v2189 c32_i32_694
  v2190
def k0_mult118 (k0_t2 : Fin k0_t2_loop.trips) : BitVec 32 :=
  let c0_i32_695 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2201 : BitVec 32 := Scalar.addi c0_i32_695 v2085
  let c128_i32_696 : BitVec 32 := 128#32
  let v2202 : BitVec 32 := Scalar.muli v2201 c128_i32_696
  let c48_i32_697 : BitVec 32 := 48#32
  let v2203 : BitVec 32 := Scalar.addi v2202 c48_i32_697
  v2203
def k0_mult119 (k0_t2 : Fin k0_t2_loop.trips) : BitVec 32 :=
  let c0_i32_698 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2214 : BitVec 32 := Scalar.addi c0_i32_698 v2085
  let c128_i32_699 : BitVec 32 := 128#32
  let v2215 : BitVec 32 := Scalar.muli v2214 c128_i32_699
  let c64_i32_700 : BitVec 32 := 64#32
  let v2216 : BitVec 32 := Scalar.addi v2215 c64_i32_700
  v2216
def k0_mult120 (k0_t2 : Fin k0_t2_loop.trips) : BitVec 32 :=
  let c0_i32_701 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2227 : BitVec 32 := Scalar.addi c0_i32_701 v2085
  let c128_i32_702 : BitVec 32 := 128#32
  let v2228 : BitVec 32 := Scalar.muli v2227 c128_i32_702
  let c80_i32_703 : BitVec 32 := 80#32
  let v2229 : BitVec 32 := Scalar.addi v2228 c80_i32_703
  v2229
def k0_mult121 (k0_t2 : Fin k0_t2_loop.trips) : BitVec 32 :=
  let c0_i32_704 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2240 : BitVec 32 := Scalar.addi c0_i32_704 v2085
  let c128_i32_705 : BitVec 32 := 128#32
  let v2241 : BitVec 32 := Scalar.muli v2240 c128_i32_705
  let c96_i32_706 : BitVec 32 := 96#32
  let v2242 : BitVec 32 := Scalar.addi v2241 c96_i32_706
  v2242
def k0_mult122 (k0_t2 : Fin k0_t2_loop.trips) : BitVec 32 :=
  let c0_i32_707 : BitVec 32 := 0#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2253 : BitVec 32 := Scalar.addi c0_i32_707 v2085
  let c128_i32_708 : BitVec 32 := 128#32
  let v2254 : BitVec 32 := Scalar.muli v2253 c128_i32_708
  let c112_i32_709 : BitVec 32 := 112#32
  let v2255 : BitVec 32 := Scalar.addi v2254 c112_i32_709
  v2255
def k0_mult123 (k0_t2 : Fin k0_t2_loop.trips) : BitVec 32 :=
  let c128_i32_710 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2270 : BitVec 32 := Scalar.addi c128_i32_710 v2085
  let c128_i32_711 : BitVec 32 := 128#32
  let v2271 : BitVec 32 := Scalar.muli v2270 c128_i32_711
  let c0_i32_712 : BitVec 32 := 0#32
  let v2272 : BitVec 32 := Scalar.addi v2271 c0_i32_712
  v2272
def k0_mult124 (k0_t2 : Fin k0_t2_loop.trips) : BitVec 32 :=
  let c128_i32_713 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2283 : BitVec 32 := Scalar.addi c128_i32_713 v2085
  let c128_i32_714 : BitVec 32 := 128#32
  let v2284 : BitVec 32 := Scalar.muli v2283 c128_i32_714
  let c16_i32_715 : BitVec 32 := 16#32
  let v2285 : BitVec 32 := Scalar.addi v2284 c16_i32_715
  v2285
def k0_mult125 (k0_t2 : Fin k0_t2_loop.trips) : BitVec 32 :=
  let c128_i32_716 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2296 : BitVec 32 := Scalar.addi c128_i32_716 v2085
  let c128_i32_717 : BitVec 32 := 128#32
  let v2297 : BitVec 32 := Scalar.muli v2296 c128_i32_717
  let c32_i32_718 : BitVec 32 := 32#32
  let v2298 : BitVec 32 := Scalar.addi v2297 c32_i32_718
  v2298
def k0_mult126 (k0_t2 : Fin k0_t2_loop.trips) : BitVec 32 :=
  let c128_i32_719 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2309 : BitVec 32 := Scalar.addi c128_i32_719 v2085
  let c128_i32_720 : BitVec 32 := 128#32
  let v2310 : BitVec 32 := Scalar.muli v2309 c128_i32_720
  let c48_i32_721 : BitVec 32 := 48#32
  let v2311 : BitVec 32 := Scalar.addi v2310 c48_i32_721
  v2311
def k0_mult127 (k0_t2 : Fin k0_t2_loop.trips) : BitVec 32 :=
  let c128_i32_722 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2322 : BitVec 32 := Scalar.addi c128_i32_722 v2085
  let c128_i32_723 : BitVec 32 := 128#32
  let v2323 : BitVec 32 := Scalar.muli v2322 c128_i32_723
  let c64_i32_724 : BitVec 32 := 64#32
  let v2324 : BitVec 32 := Scalar.addi v2323 c64_i32_724
  v2324
def k0_mult128 (k0_t2 : Fin k0_t2_loop.trips) : BitVec 32 :=
  let c128_i32_725 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2335 : BitVec 32 := Scalar.addi c128_i32_725 v2085
  let c128_i32_726 : BitVec 32 := 128#32
  let v2336 : BitVec 32 := Scalar.muli v2335 c128_i32_726
  let c80_i32_727 : BitVec 32 := 80#32
  let v2337 : BitVec 32 := Scalar.addi v2336 c80_i32_727
  v2337
def k0_mult129 (k0_t2 : Fin k0_t2_loop.trips) : BitVec 32 :=
  let c128_i32_728 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2348 : BitVec 32 := Scalar.addi c128_i32_728 v2085
  let c128_i32_729 : BitVec 32 := 128#32
  let v2349 : BitVec 32 := Scalar.muli v2348 c128_i32_729
  let c96_i32_730 : BitVec 32 := 96#32
  let v2350 : BitVec 32 := Scalar.addi v2349 c96_i32_730
  v2350
def k0_mult130 (k0_t2 : Fin k0_t2_loop.trips) : BitVec 32 :=
  let c128_i32_731 : BitVec 32 := 128#32
  let c0_i32_26 : BitVec 32 := 0#32
  let c0_i32_11 : BitVec 32 := 0#32
  let c1_i32_12 : BitVec 32 := 1#32
  let arg12 : BitVec 32 := Scf.iv c0_i32_11 c1_i32_12 k0_t2
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2361 : BitVec 32 := Scalar.addi c128_i32_731 v2085
  let c128_i32_732 : BitVec 32 := 128#32
  let v2362 : BitVec 32 := Scalar.muli v2361 c128_i32_732
  let c112_i32_733 : BitVec 32 := 112#32
  let v2363 : BitVec 32 := Scalar.addi v2362 c112_i32_733
  v2363
def k0_off21 (i : grid0.Coords) (k0_t1 : Fin k0_t1_loop.trips) (c0_i32_5 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_4 : BitVec 32 := 2#32
  let c0_i32_0 : BitVec 32 := 0#32
  let c1_i32 : BitVec 32 := 1#32
  let arg11 : BitVec 32 := Scf.iv c0_i32_0 c1_i32 k0_t1
  let v12 : BitVec 32 := Scalar.muli c2_i32_4 arg11
  let v13 : BitVec 32 := Scalar.addi v12 c0_i32_5
  let c2_i32_6 : BitVec 32 := 2#32
  let v14 : BitVec 32 := Scalar.muli v13 c2_i32_6
  let v15 : BitVec 32 := Scalar.addi v2 v14
  let c128_i32_7 : BitVec 32 := 128#32
  let v16 : BitVec 32 := Scalar.muli v15 c128_i32_7
  let c128_i32_8 : BitVec 32 := 128#32
  let v17 : BitVec 32 := Scalar.muli v16 c128_i32_8
  ![v17.toNat]
def k0_cond2 (k0_t1 : Fin k0_t1_loop.trips) : BitVec 1 :=
  let c0_i32_0 : BitVec 32 := 0#32
  let c1_i32 : BitVec 32 := 1#32
  let arg11 : BitVec 32 := Scf.iv c0_i32_0 c1_i32 k0_t1
  let c0_i32_19 : BitVec 32 := 0#32
  let v30 : BitVec 1 := Scalar.cmpi .sgt arg11 c0_i32_19
  let v31 : BitVec 32 := Scalar.extui v30
  let c0_i32_20 : BitVec 32 := 0#32
  let v32 : BitVec 1 := Scalar.cmpi .ne v31 c0_i32_20
  v32

def k0_off22 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_14 : BitVec 32 := 2#32
  let c0_i32_0 : BitVec 32 := 0#32
  let c1_i32 : BitVec 32 := 1#32
  let arg11 : BitVec 32 := Scf.iv c0_i32_0 c1_i32 k0_t1
  let v24 : BitVec 32 := Scalar.muli c2_i32_14 arg11
  let c1_i32_15 : BitVec 32 := 1#32
  let v25 : BitVec 32 := Scalar.addi v24 c1_i32_15
  let c2_i32_16 : BitVec 32 := 2#32
  let v26 : BitVec 32 := Scalar.muli v25 c2_i32_16
  let v27 : BitVec 32 := Scalar.addi v2 v26
  let c128_i32_17 : BitVec 32 := 128#32
  let v28 : BitVec 32 := Scalar.muli v27 c128_i32_17
  let c128_i32_18 : BitVec 32 := 128#32
  let v29 : BitVec 32 := Scalar.muli v28 c128_i32_18
  ![v29.toNat]
@[reducible] def k0_t3_loop : Scf.Loop 32 :=
  let c0_i32_21 : BitVec 32 := 0#32
  let c16_i32_22 : BitVec 32 := 16#32
  let v33 : BitVec 32 := Scalar.addi c0_i32_21 c16_i32_22
  let c1_i32_23 : BitVec 32 := 1#32
  ⟨c0_i32_21, v33, c1_i32_23⟩
def k0_mult131 (k0_t3 : Fin k0_t3_loop.trips) : BitVec 32 :=
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c16_i32_29 : BitVec 32 := 16#32
  let v40 : BitVec 32 := Scalar.muli v37 c16_i32_29
  v40
def k0_off23 (k0_t1 : Fin k0_t1_loop.trips) (k0_t3 : Fin k0_t3_loop.trips) (c0_i32_28 : BitVec 32) : Fin 2 → Nat :=
  let c2_i32_14 : BitVec 32 := 2#32
  let c0_i32_0 : BitVec 32 := 0#32
  let c1_i32 : BitVec 32 := 1#32
  let arg11 : BitVec 32 := Scf.iv c0_i32_0 c1_i32 k0_t1
  let v24 : BitVec 32 := Scalar.muli c2_i32_14 arg11
  let c1_i32_15 : BitVec 32 := 1#32
  let v25 : BitVec 32 := Scalar.addi v24 c1_i32_15
  let c2_i32_27 : BitVec 32 := 2#32
  let v38 : BitVec 32 := Scalar.muli v25 c2_i32_27
  let v39 : BitVec 32 := Scalar.addi v38 c0_i32_28
  let v42 : Index := Scalar.indexCast v39
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c16_i32_29 : BitVec 32 := 16#32
  let v40 : BitVec 32 := Scalar.muli v37 c16_i32_29
  let v41 : BitVec 32 := v40
  let v43 : Index := Scalar.indexCast v41
  ![v42.toNat, v43.toNat]
def k0_mult132 (k0_t3 : Fin k0_t3_loop.trips) : BitVec 32 :=
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c16_i32_32 : BitVec 32 := 16#32
  let v48 : BitVec 32 := Scalar.muli v37 c16_i32_32
  v48
def k0_off24 (k0_t3 : Fin k0_t3_loop.trips) (c0_i32_33 : BitVec 32) : Fin 2 → Nat :=
  let c2_i32_34 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v56 : BitVec 32 := Scalar.muli c2_i32_34 v55
  let v57 : Index := Scalar.indexCast v56
  let c0 : Index := 0#32
  ![v57.toNat, 0]
def k0_off25 (k0_t3 : Fin k0_t3_loop.trips) (c0_i32_33 : BitVec 32) : Fin 2 → Nat :=
  let c2_i32_35 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v60 : BitVec 32 := Scalar.muli c2_i32_35 v55
  let v61 : Index := Scalar.indexCast v60
  let c16 : Index := 16#32
  ![v61.toNat, 16]
def k0_off26 (k0_t3 : Fin k0_t3_loop.trips) (c0_i32_33 : BitVec 32) : Fin 2 → Nat :=
  let c2_i32_36 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v64 : BitVec 32 := Scalar.muli c2_i32_36 v55
  let v65 : Index := Scalar.indexCast v64
  let c32 : Index := 32#32
  ![v65.toNat, 32]
def k0_off27 (k0_t3 : Fin k0_t3_loop.trips) (c0_i32_33 : BitVec 32) : Fin 2 → Nat :=
  let c2_i32_37 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v68 : BitVec 32 := Scalar.muli c2_i32_37 v55
  let v69 : Index := Scalar.indexCast v68
  let c48 : Index := 48#32
  ![v69.toNat, 48]
def k0_off28 (k0_t3 : Fin k0_t3_loop.trips) (c0_i32_33 : BitVec 32) : Fin 2 → Nat :=
  let c2_i32_38 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v72 : BitVec 32 := Scalar.muli c2_i32_38 v55
  let v73 : Index := Scalar.indexCast v72
  let c64 : Index := 64#32
  ![v73.toNat, 64]
def k0_off29 (k0_t3 : Fin k0_t3_loop.trips) (c0_i32_33 : BitVec 32) : Fin 2 → Nat :=
  let c2_i32_39 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v76 : BitVec 32 := Scalar.muli c2_i32_39 v55
  let v77 : Index := Scalar.indexCast v76
  let c80 : Index := 80#32
  ![v77.toNat, 80]
def k0_off30 (k0_t3 : Fin k0_t3_loop.trips) (c0_i32_33 : BitVec 32) : Fin 2 → Nat :=
  let c2_i32_40 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v80 : BitVec 32 := Scalar.muli c2_i32_40 v55
  let v81 : Index := Scalar.indexCast v80
  let c96 : Index := 96#32
  ![v81.toNat, 96]
def k0_off31 (k0_t3 : Fin k0_t3_loop.trips) (c0_i32_33 : BitVec 32) : Fin 2 → Nat :=
  let c2_i32_41 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v84 : BitVec 32 := Scalar.muli c2_i32_41 v55
  let v85 : Index := Scalar.indexCast v84
  let c112 : Index := 112#32
  ![v85.toNat, 112]
def k0_off32 (k0_t3 : Fin k0_t3_loop.trips) (c0_i32_33 : BitVec 32) : Fin 2 → Nat :=
  let c2_i32_42 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v88 : BitVec 32 := Scalar.muli c2_i32_42 v55
  let c1_i32_43 : BitVec 32 := 1#32
  let v89 : BitVec 32 := Scalar.addi v88 c1_i32_43
  let v90 : Index := Scalar.indexCast v89
  let c0_44 : Index := 0#32
  ![v90.toNat, 0]
def k0_off33 (k0_t3 : Fin k0_t3_loop.trips) (c0_i32_33 : BitVec 32) : Fin 2 → Nat :=
  let c2_i32_45 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v93 : BitVec 32 := Scalar.muli c2_i32_45 v55
  let c1_i32_46 : BitVec 32 := 1#32
  let v94 : BitVec 32 := Scalar.addi v93 c1_i32_46
  let v95 : Index := Scalar.indexCast v94
  let c16_47 : Index := 16#32
  ![v95.toNat, 16]
def k0_off34 (k0_t3 : Fin k0_t3_loop.trips) (c0_i32_33 : BitVec 32) : Fin 2 → Nat :=
  let c2_i32_48 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v98 : BitVec 32 := Scalar.muli c2_i32_48 v55
  let c1_i32_49 : BitVec 32 := 1#32
  let v99 : BitVec 32 := Scalar.addi v98 c1_i32_49
  let v100 : Index := Scalar.indexCast v99
  let c32_50 : Index := 32#32
  ![v100.toNat, 32]
def k0_off35 (k0_t3 : Fin k0_t3_loop.trips) (c0_i32_33 : BitVec 32) : Fin 2 → Nat :=
  let c2_i32_51 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v103 : BitVec 32 := Scalar.muli c2_i32_51 v55
  let c1_i32_52 : BitVec 32 := 1#32
  let v104 : BitVec 32 := Scalar.addi v103 c1_i32_52
  let v105 : Index := Scalar.indexCast v104
  let c48_53 : Index := 48#32
  ![v105.toNat, 48]
def k0_off36 (k0_t3 : Fin k0_t3_loop.trips) (c0_i32_33 : BitVec 32) : Fin 2 → Nat :=
  let c2_i32_54 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v108 : BitVec 32 := Scalar.muli c2_i32_54 v55
  let c1_i32_55 : BitVec 32 := 1#32
  let v109 : BitVec 32 := Scalar.addi v108 c1_i32_55
  let v110 : Index := Scalar.indexCast v109
  let c64_56 : Index := 64#32
  ![v110.toNat, 64]
def k0_off37 (k0_t3 : Fin k0_t3_loop.trips) (c0_i32_33 : BitVec 32) : Fin 2 → Nat :=
  let c2_i32_57 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v113 : BitVec 32 := Scalar.muli c2_i32_57 v55
  let c1_i32_58 : BitVec 32 := 1#32
  let v114 : BitVec 32 := Scalar.addi v113 c1_i32_58
  let v115 : Index := Scalar.indexCast v114
  let c80_59 : Index := 80#32
  ![v115.toNat, 80]
def k0_off38 (k0_t3 : Fin k0_t3_loop.trips) (c0_i32_33 : BitVec 32) : Fin 2 → Nat :=
  let c2_i32_60 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v118 : BitVec 32 := Scalar.muli c2_i32_60 v55
  let c1_i32_61 : BitVec 32 := 1#32
  let v119 : BitVec 32 := Scalar.addi v118 c1_i32_61
  let v120 : Index := Scalar.indexCast v119
  let c96_62 : Index := 96#32
  ![v120.toNat, 96]
def k0_off39 (k0_t3 : Fin k0_t3_loop.trips) (c0_i32_33 : BitVec 32) : Fin 2 → Nat :=
  let c2_i32_63 : BitVec 32 := 2#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v123 : BitVec 32 := Scalar.muli c2_i32_63 v55
  let c1_i32_64 : BitVec 32 := 1#32
  let v124 : BitVec 32 := Scalar.addi v123 c1_i32_64
  let v125 : Index := Scalar.indexCast v124
  let c112_65 : Index := 112#32
  ![v125.toNat, 112]
def k0_mult133 (k0_t3 : Fin k0_t3_loop.trips) : BitVec 32 :=
  let c0_i32_66 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v132 : BitVec 32 := Scalar.addi c0_i32_66 v55
  let c128_i32_67 : BitVec 32 := 128#32
  let v133 : BitVec 32 := Scalar.muli v132 c128_i32_67
  let c0_i32_68 : BitVec 32 := 0#32
  let v134 : BitVec 32 := Scalar.addi v133 c0_i32_68
  v134
def k0_off40 (k0_t3 : Fin k0_t3_loop.trips) (c0_i32_66 : BitVec 32) (c0_i32_33 : BitVec 32) (c0_i32_68 : BitVec 32) : Fin 1 → Nat :=
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let v55 : BitVec 32 := Scalar.addi v54 c0_i32_33
  let v132 : BitVec 32 := Scalar.addi c0_i32_66 v55
  let c128_i32_67 : BitVec 32 := 128#32
  let v133 : BitVec 32 := Scalar.muli v132 c128_i32_67
  let v134 : BitVec 32 := Scalar.addi v133 c0_i32_68
  let v135 : BitVec 32 := v134
  let v141 : Index := Scalar.indexCast v135
  ![v141.toNat]
def k0_mult134 (k0_t3 : Fin k0_t3_loop.trips) : BitVec 32 :=
  let c0_i32_69 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v145 : BitVec 32 := Scalar.addi c0_i32_69 v55
  let c128_i32_70 : BitVec 32 := 128#32
  let v146 : BitVec 32 := Scalar.muli v145 c128_i32_70
  let c16_i32_71 : BitVec 32 := 16#32
  let v147 : BitVec 32 := Scalar.addi v146 c16_i32_71
  v147
def k0_mult135 (k0_t3 : Fin k0_t3_loop.trips) : BitVec 32 :=
  let c0_i32_72 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v158 : BitVec 32 := Scalar.addi c0_i32_72 v55
  let c128_i32_73 : BitVec 32 := 128#32
  let v159 : BitVec 32 := Scalar.muli v158 c128_i32_73
  let c32_i32_74 : BitVec 32 := 32#32
  let v160 : BitVec 32 := Scalar.addi v159 c32_i32_74
  v160
def k0_mult136 (k0_t3 : Fin k0_t3_loop.trips) : BitVec 32 :=
  let c0_i32_75 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v171 : BitVec 32 := Scalar.addi c0_i32_75 v55
  let c128_i32_76 : BitVec 32 := 128#32
  let v172 : BitVec 32 := Scalar.muli v171 c128_i32_76
  let c48_i32 : BitVec 32 := 48#32
  let v173 : BitVec 32 := Scalar.addi v172 c48_i32
  v173
def k0_mult137 (k0_t3 : Fin k0_t3_loop.trips) : BitVec 32 :=
  let c0_i32_77 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v184 : BitVec 32 := Scalar.addi c0_i32_77 v55
  let c128_i32_78 : BitVec 32 := 128#32
  let v185 : BitVec 32 := Scalar.muli v184 c128_i32_78
  let c64_i32 : BitVec 32 := 64#32
  let v186 : BitVec 32 := Scalar.addi v185 c64_i32
  v186
def k0_mult138 (k0_t3 : Fin k0_t3_loop.trips) : BitVec 32 :=
  let c0_i32_79 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v197 : BitVec 32 := Scalar.addi c0_i32_79 v55
  let c128_i32_80 : BitVec 32 := 128#32
  let v198 : BitVec 32 := Scalar.muli v197 c128_i32_80
  let c80_i32 : BitVec 32 := 80#32
  let v199 : BitVec 32 := Scalar.addi v198 c80_i32
  v199
def k0_mult139 (k0_t3 : Fin k0_t3_loop.trips) : BitVec 32 :=
  let c0_i32_81 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v210 : BitVec 32 := Scalar.addi c0_i32_81 v55
  let c128_i32_82 : BitVec 32 := 128#32
  let v211 : BitVec 32 := Scalar.muli v210 c128_i32_82
  let c96_i32 : BitVec 32 := 96#32
  let v212 : BitVec 32 := Scalar.addi v211 c96_i32
  v212
def k0_mult140 (k0_t3 : Fin k0_t3_loop.trips) : BitVec 32 :=
  let c0_i32_83 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v223 : BitVec 32 := Scalar.addi c0_i32_83 v55
  let c128_i32_84 : BitVec 32 := 128#32
  let v224 : BitVec 32 := Scalar.muli v223 c128_i32_84
  let c112_i32 : BitVec 32 := 112#32
  let v225 : BitVec 32 := Scalar.addi v224 c112_i32
  v225
def k0_mult141 (k0_t3 : Fin k0_t3_loop.trips) : BitVec 32 :=
  let c128_i32_85 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v240 : BitVec 32 := Scalar.addi c128_i32_85 v55
  let c128_i32_86 : BitVec 32 := 128#32
  let v241 : BitVec 32 := Scalar.muli v240 c128_i32_86
  let c0_i32_87 : BitVec 32 := 0#32
  let v242 : BitVec 32 := Scalar.addi v241 c0_i32_87
  v242
def k0_mult142 (k0_t3 : Fin k0_t3_loop.trips) : BitVec 32 :=
  let c128_i32_88 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v253 : BitVec 32 := Scalar.addi c128_i32_88 v55
  let c128_i32_89 : BitVec 32 := 128#32
  let v254 : BitVec 32 := Scalar.muli v253 c128_i32_89
  let c16_i32_90 : BitVec 32 := 16#32
  let v255 : BitVec 32 := Scalar.addi v254 c16_i32_90
  v255
def k0_mult143 (k0_t3 : Fin k0_t3_loop.trips) : BitVec 32 :=
  let c128_i32_91 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v266 : BitVec 32 := Scalar.addi c128_i32_91 v55
  let c128_i32_92 : BitVec 32 := 128#32
  let v267 : BitVec 32 := Scalar.muli v266 c128_i32_92
  let c32_i32_93 : BitVec 32 := 32#32
  let v268 : BitVec 32 := Scalar.addi v267 c32_i32_93
  v268
def k0_mult144 (k0_t3 : Fin k0_t3_loop.trips) : BitVec 32 :=
  let c128_i32_94 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v279 : BitVec 32 := Scalar.addi c128_i32_94 v55
  let c128_i32_95 : BitVec 32 := 128#32
  let v280 : BitVec 32 := Scalar.muli v279 c128_i32_95
  let c48_i32_96 : BitVec 32 := 48#32
  let v281 : BitVec 32 := Scalar.addi v280 c48_i32_96
  v281
def k0_mult145 (k0_t3 : Fin k0_t3_loop.trips) : BitVec 32 :=
  let c128_i32_97 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v292 : BitVec 32 := Scalar.addi c128_i32_97 v55
  let c128_i32_98 : BitVec 32 := 128#32
  let v293 : BitVec 32 := Scalar.muli v292 c128_i32_98
  let c64_i32_99 : BitVec 32 := 64#32
  let v294 : BitVec 32 := Scalar.addi v293 c64_i32_99
  v294
def k0_mult146 (k0_t3 : Fin k0_t3_loop.trips) : BitVec 32 :=
  let c128_i32_100 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v305 : BitVec 32 := Scalar.addi c128_i32_100 v55
  let c128_i32_101 : BitVec 32 := 128#32
  let v306 : BitVec 32 := Scalar.muli v305 c128_i32_101
  let c80_i32_102 : BitVec 32 := 80#32
  let v307 : BitVec 32 := Scalar.addi v306 c80_i32_102
  v307
def k0_mult147 (k0_t3 : Fin k0_t3_loop.trips) : BitVec 32 :=
  let c128_i32_103 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v318 : BitVec 32 := Scalar.addi c128_i32_103 v55
  let c128_i32_104 : BitVec 32 := 128#32
  let v319 : BitVec 32 := Scalar.muli v318 c128_i32_104
  let c96_i32_105 : BitVec 32 := 96#32
  let v320 : BitVec 32 := Scalar.addi v319 c96_i32_105
  v320
def k0_mult148 (k0_t3 : Fin k0_t3_loop.trips) : BitVec 32 :=
  let c128_i32_106 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32 : BitVec 32 := 8#32
  let v54 : BitVec 32 := Scalar.muli v37 c8_i32
  let c0_i32_33 : BitVec 32 := 0#32
  let v55 : BitVec 32 := Scalar.addi v54 c0_i32_33
  let v331 : BitVec 32 := Scalar.addi c128_i32_106 v55
  let c128_i32_107 : BitVec 32 := 128#32
  let v332 : BitVec 32 := Scalar.muli v331 c128_i32_107
  let c112_i32_108 : BitVec 32 := 112#32
  let v333 : BitVec 32 := Scalar.addi v332 c112_i32_108
  v333
def k0_mult149 (k0_t3 : Fin k0_t3_loop.trips) : BitVec 32 :=
  let c0_i32_151 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v422 : BitVec 32 := Scalar.addi c0_i32_151 v345
  let c128_i32_152 : BitVec 32 := 128#32
  let v423 : BitVec 32 := Scalar.muli v422 c128_i32_152
  let c0_i32_153 : BitVec 32 := 0#32
  let v424 : BitVec 32 := Scalar.addi v423 c0_i32_153
  v424
def k0_mult150 (k0_t3 : Fin k0_t3_loop.trips) : BitVec 32 :=
  let c0_i32_154 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v435 : BitVec 32 := Scalar.addi c0_i32_154 v345
  let c128_i32_155 : BitVec 32 := 128#32
  let v436 : BitVec 32 := Scalar.muli v435 c128_i32_155
  let c16_i32_156 : BitVec 32 := 16#32
  let v437 : BitVec 32 := Scalar.addi v436 c16_i32_156
  v437
def k0_mult151 (k0_t3 : Fin k0_t3_loop.trips) : BitVec 32 :=
  let c0_i32_157 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v448 : BitVec 32 := Scalar.addi c0_i32_157 v345
  let c128_i32_158 : BitVec 32 := 128#32
  let v449 : BitVec 32 := Scalar.muli v448 c128_i32_158
  let c32_i32_159 : BitVec 32 := 32#32
  let v450 : BitVec 32 := Scalar.addi v449 c32_i32_159
  v450
def k0_mult152 (k0_t3 : Fin k0_t3_loop.trips) : BitVec 32 :=
  let c0_i32_160 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v461 : BitVec 32 := Scalar.addi c0_i32_160 v345
  let c128_i32_161 : BitVec 32 := 128#32
  let v462 : BitVec 32 := Scalar.muli v461 c128_i32_161
  let c48_i32_162 : BitVec 32 := 48#32
  let v463 : BitVec 32 := Scalar.addi v462 c48_i32_162
  v463
def k0_mult153 (k0_t3 : Fin k0_t3_loop.trips) : BitVec 32 :=
  let c0_i32_163 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v474 : BitVec 32 := Scalar.addi c0_i32_163 v345
  let c128_i32_164 : BitVec 32 := 128#32
  let v475 : BitVec 32 := Scalar.muli v474 c128_i32_164
  let c64_i32_165 : BitVec 32 := 64#32
  let v476 : BitVec 32 := Scalar.addi v475 c64_i32_165
  v476
def k0_mult154 (k0_t3 : Fin k0_t3_loop.trips) : BitVec 32 :=
  let c0_i32_166 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v487 : BitVec 32 := Scalar.addi c0_i32_166 v345
  let c128_i32_167 : BitVec 32 := 128#32
  let v488 : BitVec 32 := Scalar.muli v487 c128_i32_167
  let c80_i32_168 : BitVec 32 := 80#32
  let v489 : BitVec 32 := Scalar.addi v488 c80_i32_168
  v489
def k0_mult155 (k0_t3 : Fin k0_t3_loop.trips) : BitVec 32 :=
  let c0_i32_169 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v500 : BitVec 32 := Scalar.addi c0_i32_169 v345
  let c128_i32_170 : BitVec 32 := 128#32
  let v501 : BitVec 32 := Scalar.muli v500 c128_i32_170
  let c96_i32_171 : BitVec 32 := 96#32
  let v502 : BitVec 32 := Scalar.addi v501 c96_i32_171
  v502
def k0_mult156 (k0_t3 : Fin k0_t3_loop.trips) : BitVec 32 :=
  let c0_i32_172 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v513 : BitVec 32 := Scalar.addi c0_i32_172 v345
  let c128_i32_173 : BitVec 32 := 128#32
  let v514 : BitVec 32 := Scalar.muli v513 c128_i32_173
  let c112_i32_174 : BitVec 32 := 112#32
  let v515 : BitVec 32 := Scalar.addi v514 c112_i32_174
  v515
def k0_mult157 (k0_t3 : Fin k0_t3_loop.trips) : BitVec 32 :=
  let c128_i32_175 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v530 : BitVec 32 := Scalar.addi c128_i32_175 v345
  let c128_i32_176 : BitVec 32 := 128#32
  let v531 : BitVec 32 := Scalar.muli v530 c128_i32_176
  let c0_i32_177 : BitVec 32 := 0#32
  let v532 : BitVec 32 := Scalar.addi v531 c0_i32_177
  v532
def k0_mult158 (k0_t3 : Fin k0_t3_loop.trips) : BitVec 32 :=
  let c128_i32_178 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v543 : BitVec 32 := Scalar.addi c128_i32_178 v345
  let c128_i32_179 : BitVec 32 := 128#32
  let v544 : BitVec 32 := Scalar.muli v543 c128_i32_179
  let c16_i32_180 : BitVec 32 := 16#32
  let v545 : BitVec 32 := Scalar.addi v544 c16_i32_180
  v545
def k0_mult159 (k0_t3 : Fin k0_t3_loop.trips) : BitVec 32 :=
  let c128_i32_181 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v556 : BitVec 32 := Scalar.addi c128_i32_181 v345
  let c128_i32_182 : BitVec 32 := 128#32
  let v557 : BitVec 32 := Scalar.muli v556 c128_i32_182
  let c32_i32_183 : BitVec 32 := 32#32
  let v558 : BitVec 32 := Scalar.addi v557 c32_i32_183
  v558
def k0_mult160 (k0_t3 : Fin k0_t3_loop.trips) : BitVec 32 :=
  let c128_i32_184 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v569 : BitVec 32 := Scalar.addi c128_i32_184 v345
  let c128_i32_185 : BitVec 32 := 128#32
  let v570 : BitVec 32 := Scalar.muli v569 c128_i32_185
  let c48_i32_186 : BitVec 32 := 48#32
  let v571 : BitVec 32 := Scalar.addi v570 c48_i32_186
  v571
def k0_mult161 (k0_t3 : Fin k0_t3_loop.trips) : BitVec 32 :=
  let c128_i32_187 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v582 : BitVec 32 := Scalar.addi c128_i32_187 v345
  let c128_i32_188 : BitVec 32 := 128#32
  let v583 : BitVec 32 := Scalar.muli v582 c128_i32_188
  let c64_i32_189 : BitVec 32 := 64#32
  let v584 : BitVec 32 := Scalar.addi v583 c64_i32_189
  v584
def k0_mult162 (k0_t3 : Fin k0_t3_loop.trips) : BitVec 32 :=
  let c128_i32_190 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v595 : BitVec 32 := Scalar.addi c128_i32_190 v345
  let c128_i32_191 : BitVec 32 := 128#32
  let v596 : BitVec 32 := Scalar.muli v595 c128_i32_191
  let c80_i32_192 : BitVec 32 := 80#32
  let v597 : BitVec 32 := Scalar.addi v596 c80_i32_192
  v597
def k0_mult163 (k0_t3 : Fin k0_t3_loop.trips) : BitVec 32 :=
  let c128_i32_193 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v608 : BitVec 32 := Scalar.addi c128_i32_193 v345
  let c128_i32_194 : BitVec 32 := 128#32
  let v609 : BitVec 32 := Scalar.muli v608 c128_i32_194
  let c96_i32_195 : BitVec 32 := 96#32
  let v610 : BitVec 32 := Scalar.addi v609 c96_i32_195
  v610
def k0_mult164 (k0_t3 : Fin k0_t3_loop.trips) : BitVec 32 :=
  let c128_i32_196 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_109 : BitVec 32 := 8#32
  let v344 : BitVec 32 := Scalar.muli v37 c8_i32_109
  let c1_i32_110 : BitVec 32 := 1#32
  let v345 : BitVec 32 := Scalar.addi v344 c1_i32_110
  let v621 : BitVec 32 := Scalar.addi c128_i32_196 v345
  let c128_i32_197 : BitVec 32 := 128#32
  let v622 : BitVec 32 := Scalar.muli v621 c128_i32_197
  let c112_i32_198 : BitVec 32 := 112#32
  let v623 : BitVec 32 := Scalar.addi v622 c112_i32_198
  v623
def k0_mult165 (k0_t3 : Fin k0_t3_loop.trips) : BitVec 32 :=
  let c0_i32_241 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v712 : BitVec 32 := Scalar.addi c0_i32_241 v635
  let c128_i32_242 : BitVec 32 := 128#32
  let v713 : BitVec 32 := Scalar.muli v712 c128_i32_242
  let c0_i32_243 : BitVec 32 := 0#32
  let v714 : BitVec 32 := Scalar.addi v713 c0_i32_243
  v714
def k0_mult166 (k0_t3 : Fin k0_t3_loop.trips) : BitVec 32 :=
  let c0_i32_244 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v725 : BitVec 32 := Scalar.addi c0_i32_244 v635
  let c128_i32_245 : BitVec 32 := 128#32
  let v726 : BitVec 32 := Scalar.muli v725 c128_i32_245
  let c16_i32_246 : BitVec 32 := 16#32
  let v727 : BitVec 32 := Scalar.addi v726 c16_i32_246
  v727
def k0_mult167 (k0_t3 : Fin k0_t3_loop.trips) : BitVec 32 :=
  let c0_i32_247 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v738 : BitVec 32 := Scalar.addi c0_i32_247 v635
  let c128_i32_248 : BitVec 32 := 128#32
  let v739 : BitVec 32 := Scalar.muli v738 c128_i32_248
  let c32_i32_249 : BitVec 32 := 32#32
  let v740 : BitVec 32 := Scalar.addi v739 c32_i32_249
  v740
def k0_mult168 (k0_t3 : Fin k0_t3_loop.trips) : BitVec 32 :=
  let c0_i32_250 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v751 : BitVec 32 := Scalar.addi c0_i32_250 v635
  let c128_i32_251 : BitVec 32 := 128#32
  let v752 : BitVec 32 := Scalar.muli v751 c128_i32_251
  let c48_i32_252 : BitVec 32 := 48#32
  let v753 : BitVec 32 := Scalar.addi v752 c48_i32_252
  v753
def k0_mult169 (k0_t3 : Fin k0_t3_loop.trips) : BitVec 32 :=
  let c0_i32_253 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v764 : BitVec 32 := Scalar.addi c0_i32_253 v635
  let c128_i32_254 : BitVec 32 := 128#32
  let v765 : BitVec 32 := Scalar.muli v764 c128_i32_254
  let c64_i32_255 : BitVec 32 := 64#32
  let v766 : BitVec 32 := Scalar.addi v765 c64_i32_255
  v766
def k0_mult170 (k0_t3 : Fin k0_t3_loop.trips) : BitVec 32 :=
  let c0_i32_256 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v777 : BitVec 32 := Scalar.addi c0_i32_256 v635
  let c128_i32_257 : BitVec 32 := 128#32
  let v778 : BitVec 32 := Scalar.muli v777 c128_i32_257
  let c80_i32_258 : BitVec 32 := 80#32
  let v779 : BitVec 32 := Scalar.addi v778 c80_i32_258
  v779
def k0_mult171 (k0_t3 : Fin k0_t3_loop.trips) : BitVec 32 :=
  let c0_i32_259 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v790 : BitVec 32 := Scalar.addi c0_i32_259 v635
  let c128_i32_260 : BitVec 32 := 128#32
  let v791 : BitVec 32 := Scalar.muli v790 c128_i32_260
  let c96_i32_261 : BitVec 32 := 96#32
  let v792 : BitVec 32 := Scalar.addi v791 c96_i32_261
  v792
def k0_mult172 (k0_t3 : Fin k0_t3_loop.trips) : BitVec 32 :=
  let c0_i32_262 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v803 : BitVec 32 := Scalar.addi c0_i32_262 v635
  let c128_i32_263 : BitVec 32 := 128#32
  let v804 : BitVec 32 := Scalar.muli v803 c128_i32_263
  let c112_i32_264 : BitVec 32 := 112#32
  let v805 : BitVec 32 := Scalar.addi v804 c112_i32_264
  v805
def k0_mult173 (k0_t3 : Fin k0_t3_loop.trips) : BitVec 32 :=
  let c128_i32_265 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v820 : BitVec 32 := Scalar.addi c128_i32_265 v635
  let c128_i32_266 : BitVec 32 := 128#32
  let v821 : BitVec 32 := Scalar.muli v820 c128_i32_266
  let c0_i32_267 : BitVec 32 := 0#32
  let v822 : BitVec 32 := Scalar.addi v821 c0_i32_267
  v822
def k0_mult174 (k0_t3 : Fin k0_t3_loop.trips) : BitVec 32 :=
  let c128_i32_268 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v833 : BitVec 32 := Scalar.addi c128_i32_268 v635
  let c128_i32_269 : BitVec 32 := 128#32
  let v834 : BitVec 32 := Scalar.muli v833 c128_i32_269
  let c16_i32_270 : BitVec 32 := 16#32
  let v835 : BitVec 32 := Scalar.addi v834 c16_i32_270
  v835
def k0_mult175 (k0_t3 : Fin k0_t3_loop.trips) : BitVec 32 :=
  let c128_i32_271 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v846 : BitVec 32 := Scalar.addi c128_i32_271 v635
  let c128_i32_272 : BitVec 32 := 128#32
  let v847 : BitVec 32 := Scalar.muli v846 c128_i32_272
  let c32_i32_273 : BitVec 32 := 32#32
  let v848 : BitVec 32 := Scalar.addi v847 c32_i32_273
  v848
def k0_mult176 (k0_t3 : Fin k0_t3_loop.trips) : BitVec 32 :=
  let c128_i32_274 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v859 : BitVec 32 := Scalar.addi c128_i32_274 v635
  let c128_i32_275 : BitVec 32 := 128#32
  let v860 : BitVec 32 := Scalar.muli v859 c128_i32_275
  let c48_i32_276 : BitVec 32 := 48#32
  let v861 : BitVec 32 := Scalar.addi v860 c48_i32_276
  v861
def k0_mult177 (k0_t3 : Fin k0_t3_loop.trips) : BitVec 32 :=
  let c128_i32_277 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v872 : BitVec 32 := Scalar.addi c128_i32_277 v635
  let c128_i32_278 : BitVec 32 := 128#32
  let v873 : BitVec 32 := Scalar.muli v872 c128_i32_278
  let c64_i32_279 : BitVec 32 := 64#32
  let v874 : BitVec 32 := Scalar.addi v873 c64_i32_279
  v874
def k0_mult178 (k0_t3 : Fin k0_t3_loop.trips) : BitVec 32 :=
  let c128_i32_280 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v885 : BitVec 32 := Scalar.addi c128_i32_280 v635
  let c128_i32_281 : BitVec 32 := 128#32
  let v886 : BitVec 32 := Scalar.muli v885 c128_i32_281
  let c80_i32_282 : BitVec 32 := 80#32
  let v887 : BitVec 32 := Scalar.addi v886 c80_i32_282
  v887
def k0_mult179 (k0_t3 : Fin k0_t3_loop.trips) : BitVec 32 :=
  let c128_i32_283 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v898 : BitVec 32 := Scalar.addi c128_i32_283 v635
  let c128_i32_284 : BitVec 32 := 128#32
  let v899 : BitVec 32 := Scalar.muli v898 c128_i32_284
  let c96_i32_285 : BitVec 32 := 96#32
  let v900 : BitVec 32 := Scalar.addi v899 c96_i32_285
  v900
def k0_mult180 (k0_t3 : Fin k0_t3_loop.trips) : BitVec 32 :=
  let c128_i32_286 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_199 : BitVec 32 := 8#32
  let v634 : BitVec 32 := Scalar.muli v37 c8_i32_199
  let c2_i32_200 : BitVec 32 := 2#32
  let v635 : BitVec 32 := Scalar.addi v634 c2_i32_200
  let v911 : BitVec 32 := Scalar.addi c128_i32_286 v635
  let c128_i32_287 : BitVec 32 := 128#32
  let v912 : BitVec 32 := Scalar.muli v911 c128_i32_287
  let c112_i32_288 : BitVec 32 := 112#32
  let v913 : BitVec 32 := Scalar.addi v912 c112_i32_288
  v913
def k0_mult181 (k0_t3 : Fin k0_t3_loop.trips) : BitVec 32 :=
  let c0_i32_330 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1002 : BitVec 32 := Scalar.addi c0_i32_330 v925
  let c128_i32_331 : BitVec 32 := 128#32
  let v1003 : BitVec 32 := Scalar.muli v1002 c128_i32_331
  let c0_i32_332 : BitVec 32 := 0#32
  let v1004 : BitVec 32 := Scalar.addi v1003 c0_i32_332
  v1004
def k0_mult182 (k0_t3 : Fin k0_t3_loop.trips) : BitVec 32 :=
  let c0_i32_333 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1015 : BitVec 32 := Scalar.addi c0_i32_333 v925
  let c128_i32_334 : BitVec 32 := 128#32
  let v1016 : BitVec 32 := Scalar.muli v1015 c128_i32_334
  let c16_i32_335 : BitVec 32 := 16#32
  let v1017 : BitVec 32 := Scalar.addi v1016 c16_i32_335
  v1017
def k0_mult183 (k0_t3 : Fin k0_t3_loop.trips) : BitVec 32 :=
  let c0_i32_336 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1028 : BitVec 32 := Scalar.addi c0_i32_336 v925
  let c128_i32_337 : BitVec 32 := 128#32
  let v1029 : BitVec 32 := Scalar.muli v1028 c128_i32_337
  let c32_i32_338 : BitVec 32 := 32#32
  let v1030 : BitVec 32 := Scalar.addi v1029 c32_i32_338
  v1030
def k0_mult184 (k0_t3 : Fin k0_t3_loop.trips) : BitVec 32 :=
  let c0_i32_339 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1041 : BitVec 32 := Scalar.addi c0_i32_339 v925
  let c128_i32_340 : BitVec 32 := 128#32
  let v1042 : BitVec 32 := Scalar.muli v1041 c128_i32_340
  let c48_i32_341 : BitVec 32 := 48#32
  let v1043 : BitVec 32 := Scalar.addi v1042 c48_i32_341
  v1043
def k0_mult185 (k0_t3 : Fin k0_t3_loop.trips) : BitVec 32 :=
  let c0_i32_342 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1054 : BitVec 32 := Scalar.addi c0_i32_342 v925
  let c128_i32_343 : BitVec 32 := 128#32
  let v1055 : BitVec 32 := Scalar.muli v1054 c128_i32_343
  let c64_i32_344 : BitVec 32 := 64#32
  let v1056 : BitVec 32 := Scalar.addi v1055 c64_i32_344
  v1056
def k0_mult186 (k0_t3 : Fin k0_t3_loop.trips) : BitVec 32 :=
  let c0_i32_345 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1067 : BitVec 32 := Scalar.addi c0_i32_345 v925
  let c128_i32_346 : BitVec 32 := 128#32
  let v1068 : BitVec 32 := Scalar.muli v1067 c128_i32_346
  let c80_i32_347 : BitVec 32 := 80#32
  let v1069 : BitVec 32 := Scalar.addi v1068 c80_i32_347
  v1069
def k0_mult187 (k0_t3 : Fin k0_t3_loop.trips) : BitVec 32 :=
  let c0_i32_348 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1080 : BitVec 32 := Scalar.addi c0_i32_348 v925
  let c128_i32_349 : BitVec 32 := 128#32
  let v1081 : BitVec 32 := Scalar.muli v1080 c128_i32_349
  let c96_i32_350 : BitVec 32 := 96#32
  let v1082 : BitVec 32 := Scalar.addi v1081 c96_i32_350
  v1082
def k0_mult188 (k0_t3 : Fin k0_t3_loop.trips) : BitVec 32 :=
  let c0_i32_351 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1093 : BitVec 32 := Scalar.addi c0_i32_351 v925
  let c128_i32_352 : BitVec 32 := 128#32
  let v1094 : BitVec 32 := Scalar.muli v1093 c128_i32_352
  let c112_i32_353 : BitVec 32 := 112#32
  let v1095 : BitVec 32 := Scalar.addi v1094 c112_i32_353
  v1095
def k0_mult189 (k0_t3 : Fin k0_t3_loop.trips) : BitVec 32 :=
  let c128_i32_354 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1110 : BitVec 32 := Scalar.addi c128_i32_354 v925
  let c128_i32_355 : BitVec 32 := 128#32
  let v1111 : BitVec 32 := Scalar.muli v1110 c128_i32_355
  let c0_i32_356 : BitVec 32 := 0#32
  let v1112 : BitVec 32 := Scalar.addi v1111 c0_i32_356
  v1112
def k0_mult190 (k0_t3 : Fin k0_t3_loop.trips) : BitVec 32 :=
  let c128_i32_357 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1123 : BitVec 32 := Scalar.addi c128_i32_357 v925
  let c128_i32_358 : BitVec 32 := 128#32
  let v1124 : BitVec 32 := Scalar.muli v1123 c128_i32_358
  let c16_i32_359 : BitVec 32 := 16#32
  let v1125 : BitVec 32 := Scalar.addi v1124 c16_i32_359
  v1125
def k0_mult191 (k0_t3 : Fin k0_t3_loop.trips) : BitVec 32 :=
  let c128_i32_360 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1136 : BitVec 32 := Scalar.addi c128_i32_360 v925
  let c128_i32_361 : BitVec 32 := 128#32
  let v1137 : BitVec 32 := Scalar.muli v1136 c128_i32_361
  let c32_i32_362 : BitVec 32 := 32#32
  let v1138 : BitVec 32 := Scalar.addi v1137 c32_i32_362
  v1138
def k0_mult192 (k0_t3 : Fin k0_t3_loop.trips) : BitVec 32 :=
  let c128_i32_363 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1149 : BitVec 32 := Scalar.addi c128_i32_363 v925
  let c128_i32_364 : BitVec 32 := 128#32
  let v1150 : BitVec 32 := Scalar.muli v1149 c128_i32_364
  let c48_i32_365 : BitVec 32 := 48#32
  let v1151 : BitVec 32 := Scalar.addi v1150 c48_i32_365
  v1151
def k0_mult193 (k0_t3 : Fin k0_t3_loop.trips) : BitVec 32 :=
  let c128_i32_366 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1162 : BitVec 32 := Scalar.addi c128_i32_366 v925
  let c128_i32_367 : BitVec 32 := 128#32
  let v1163 : BitVec 32 := Scalar.muli v1162 c128_i32_367
  let c64_i32_368 : BitVec 32 := 64#32
  let v1164 : BitVec 32 := Scalar.addi v1163 c64_i32_368
  v1164
def k0_mult194 (k0_t3 : Fin k0_t3_loop.trips) : BitVec 32 :=
  let c128_i32_369 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1175 : BitVec 32 := Scalar.addi c128_i32_369 v925
  let c128_i32_370 : BitVec 32 := 128#32
  let v1176 : BitVec 32 := Scalar.muli v1175 c128_i32_370
  let c80_i32_371 : BitVec 32 := 80#32
  let v1177 : BitVec 32 := Scalar.addi v1176 c80_i32_371
  v1177
def k0_mult195 (k0_t3 : Fin k0_t3_loop.trips) : BitVec 32 :=
  let c128_i32_372 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1188 : BitVec 32 := Scalar.addi c128_i32_372 v925
  let c128_i32_373 : BitVec 32 := 128#32
  let v1189 : BitVec 32 := Scalar.muli v1188 c128_i32_373
  let c96_i32_374 : BitVec 32 := 96#32
  let v1190 : BitVec 32 := Scalar.addi v1189 c96_i32_374
  v1190
def k0_mult196 (k0_t3 : Fin k0_t3_loop.trips) : BitVec 32 :=
  let c128_i32_375 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_289 : BitVec 32 := 8#32
  let v924 : BitVec 32 := Scalar.muli v37 c8_i32_289
  let c3_i32 : BitVec 32 := 3#32
  let v925 : BitVec 32 := Scalar.addi v924 c3_i32
  let v1201 : BitVec 32 := Scalar.addi c128_i32_375 v925
  let c128_i32_376 : BitVec 32 := 128#32
  let v1202 : BitVec 32 := Scalar.muli v1201 c128_i32_376
  let c112_i32_377 : BitVec 32 := 112#32
  let v1203 : BitVec 32 := Scalar.addi v1202 c112_i32_377
  v1203
def k0_mult197 (k0_t3 : Fin k0_t3_loop.trips) : BitVec 32 :=
  let c0_i32_419 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1292 : BitVec 32 := Scalar.addi c0_i32_419 v1215
  let c128_i32_420 : BitVec 32 := 128#32
  let v1293 : BitVec 32 := Scalar.muli v1292 c128_i32_420
  let c0_i32_421 : BitVec 32 := 0#32
  let v1294 : BitVec 32 := Scalar.addi v1293 c0_i32_421
  v1294
def k0_mult198 (k0_t3 : Fin k0_t3_loop.trips) : BitVec 32 :=
  let c0_i32_422 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1305 : BitVec 32 := Scalar.addi c0_i32_422 v1215
  let c128_i32_423 : BitVec 32 := 128#32
  let v1306 : BitVec 32 := Scalar.muli v1305 c128_i32_423
  let c16_i32_424 : BitVec 32 := 16#32
  let v1307 : BitVec 32 := Scalar.addi v1306 c16_i32_424
  v1307
def k0_mult199 (k0_t3 : Fin k0_t3_loop.trips) : BitVec 32 :=
  let c0_i32_425 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1318 : BitVec 32 := Scalar.addi c0_i32_425 v1215
  let c128_i32_426 : BitVec 32 := 128#32
  let v1319 : BitVec 32 := Scalar.muli v1318 c128_i32_426
  let c32_i32_427 : BitVec 32 := 32#32
  let v1320 : BitVec 32 := Scalar.addi v1319 c32_i32_427
  v1320
def k0_mult200 (k0_t3 : Fin k0_t3_loop.trips) : BitVec 32 :=
  let c0_i32_428 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1331 : BitVec 32 := Scalar.addi c0_i32_428 v1215
  let c128_i32_429 : BitVec 32 := 128#32
  let v1332 : BitVec 32 := Scalar.muli v1331 c128_i32_429
  let c48_i32_430 : BitVec 32 := 48#32
  let v1333 : BitVec 32 := Scalar.addi v1332 c48_i32_430
  v1333
def k0_mult201 (k0_t3 : Fin k0_t3_loop.trips) : BitVec 32 :=
  let c0_i32_431 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1344 : BitVec 32 := Scalar.addi c0_i32_431 v1215
  let c128_i32_432 : BitVec 32 := 128#32
  let v1345 : BitVec 32 := Scalar.muli v1344 c128_i32_432
  let c64_i32_433 : BitVec 32 := 64#32
  let v1346 : BitVec 32 := Scalar.addi v1345 c64_i32_433
  v1346
def k0_mult202 (k0_t3 : Fin k0_t3_loop.trips) : BitVec 32 :=
  let c0_i32_434 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1357 : BitVec 32 := Scalar.addi c0_i32_434 v1215
  let c128_i32_435 : BitVec 32 := 128#32
  let v1358 : BitVec 32 := Scalar.muli v1357 c128_i32_435
  let c80_i32_436 : BitVec 32 := 80#32
  let v1359 : BitVec 32 := Scalar.addi v1358 c80_i32_436
  v1359
def k0_mult203 (k0_t3 : Fin k0_t3_loop.trips) : BitVec 32 :=
  let c0_i32_437 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1370 : BitVec 32 := Scalar.addi c0_i32_437 v1215
  let c128_i32_438 : BitVec 32 := 128#32
  let v1371 : BitVec 32 := Scalar.muli v1370 c128_i32_438
  let c96_i32_439 : BitVec 32 := 96#32
  let v1372 : BitVec 32 := Scalar.addi v1371 c96_i32_439
  v1372
def k0_mult204 (k0_t3 : Fin k0_t3_loop.trips) : BitVec 32 :=
  let c0_i32_440 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1383 : BitVec 32 := Scalar.addi c0_i32_440 v1215
  let c128_i32_441 : BitVec 32 := 128#32
  let v1384 : BitVec 32 := Scalar.muli v1383 c128_i32_441
  let c112_i32_442 : BitVec 32 := 112#32
  let v1385 : BitVec 32 := Scalar.addi v1384 c112_i32_442
  v1385
def k0_mult205 (k0_t3 : Fin k0_t3_loop.trips) : BitVec 32 :=
  let c128_i32_443 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1400 : BitVec 32 := Scalar.addi c128_i32_443 v1215
  let c128_i32_444 : BitVec 32 := 128#32
  let v1401 : BitVec 32 := Scalar.muli v1400 c128_i32_444
  let c0_i32_445 : BitVec 32 := 0#32
  let v1402 : BitVec 32 := Scalar.addi v1401 c0_i32_445
  v1402
def k0_mult206 (k0_t3 : Fin k0_t3_loop.trips) : BitVec 32 :=
  let c128_i32_446 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1413 : BitVec 32 := Scalar.addi c128_i32_446 v1215
  let c128_i32_447 : BitVec 32 := 128#32
  let v1414 : BitVec 32 := Scalar.muli v1413 c128_i32_447
  let c16_i32_448 : BitVec 32 := 16#32
  let v1415 : BitVec 32 := Scalar.addi v1414 c16_i32_448
  v1415
def k0_mult207 (k0_t3 : Fin k0_t3_loop.trips) : BitVec 32 :=
  let c128_i32_449 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1426 : BitVec 32 := Scalar.addi c128_i32_449 v1215
  let c128_i32_450 : BitVec 32 := 128#32
  let v1427 : BitVec 32 := Scalar.muli v1426 c128_i32_450
  let c32_i32_451 : BitVec 32 := 32#32
  let v1428 : BitVec 32 := Scalar.addi v1427 c32_i32_451
  v1428
def k0_mult208 (k0_t3 : Fin k0_t3_loop.trips) : BitVec 32 :=
  let c128_i32_452 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1439 : BitVec 32 := Scalar.addi c128_i32_452 v1215
  let c128_i32_453 : BitVec 32 := 128#32
  let v1440 : BitVec 32 := Scalar.muli v1439 c128_i32_453
  let c48_i32_454 : BitVec 32 := 48#32
  let v1441 : BitVec 32 := Scalar.addi v1440 c48_i32_454
  v1441
def k0_mult209 (k0_t3 : Fin k0_t3_loop.trips) : BitVec 32 :=
  let c128_i32_455 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1452 : BitVec 32 := Scalar.addi c128_i32_455 v1215
  let c128_i32_456 : BitVec 32 := 128#32
  let v1453 : BitVec 32 := Scalar.muli v1452 c128_i32_456
  let c64_i32_457 : BitVec 32 := 64#32
  let v1454 : BitVec 32 := Scalar.addi v1453 c64_i32_457
  v1454
def k0_mult210 (k0_t3 : Fin k0_t3_loop.trips) : BitVec 32 :=
  let c128_i32_458 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1465 : BitVec 32 := Scalar.addi c128_i32_458 v1215
  let c128_i32_459 : BitVec 32 := 128#32
  let v1466 : BitVec 32 := Scalar.muli v1465 c128_i32_459
  let c80_i32_460 : BitVec 32 := 80#32
  let v1467 : BitVec 32 := Scalar.addi v1466 c80_i32_460
  v1467
def k0_mult211 (k0_t3 : Fin k0_t3_loop.trips) : BitVec 32 :=
  let c128_i32_461 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1478 : BitVec 32 := Scalar.addi c128_i32_461 v1215
  let c128_i32_462 : BitVec 32 := 128#32
  let v1479 : BitVec 32 := Scalar.muli v1478 c128_i32_462
  let c96_i32_463 : BitVec 32 := 96#32
  let v1480 : BitVec 32 := Scalar.addi v1479 c96_i32_463
  v1480
def k0_mult212 (k0_t3 : Fin k0_t3_loop.trips) : BitVec 32 :=
  let c128_i32_464 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_378 : BitVec 32 := 8#32
  let v1214 : BitVec 32 := Scalar.muli v37 c8_i32_378
  let c4_i32 : BitVec 32 := 4#32
  let v1215 : BitVec 32 := Scalar.addi v1214 c4_i32
  let v1491 : BitVec 32 := Scalar.addi c128_i32_464 v1215
  let c128_i32_465 : BitVec 32 := 128#32
  let v1492 : BitVec 32 := Scalar.muli v1491 c128_i32_465
  let c112_i32_466 : BitVec 32 := 112#32
  let v1493 : BitVec 32 := Scalar.addi v1492 c112_i32_466
  v1493
def k0_mult213 (k0_t3 : Fin k0_t3_loop.trips) : BitVec 32 :=
  let c0_i32_508 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1582 : BitVec 32 := Scalar.addi c0_i32_508 v1505
  let c128_i32_509 : BitVec 32 := 128#32
  let v1583 : BitVec 32 := Scalar.muli v1582 c128_i32_509
  let c0_i32_510 : BitVec 32 := 0#32
  let v1584 : BitVec 32 := Scalar.addi v1583 c0_i32_510
  v1584
def k0_mult214 (k0_t3 : Fin k0_t3_loop.trips) : BitVec 32 :=
  let c0_i32_511 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1595 : BitVec 32 := Scalar.addi c0_i32_511 v1505
  let c128_i32_512 : BitVec 32 := 128#32
  let v1596 : BitVec 32 := Scalar.muli v1595 c128_i32_512
  let c16_i32_513 : BitVec 32 := 16#32
  let v1597 : BitVec 32 := Scalar.addi v1596 c16_i32_513
  v1597
def k0_mult215 (k0_t3 : Fin k0_t3_loop.trips) : BitVec 32 :=
  let c0_i32_514 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1608 : BitVec 32 := Scalar.addi c0_i32_514 v1505
  let c128_i32_515 : BitVec 32 := 128#32
  let v1609 : BitVec 32 := Scalar.muli v1608 c128_i32_515
  let c32_i32_516 : BitVec 32 := 32#32
  let v1610 : BitVec 32 := Scalar.addi v1609 c32_i32_516
  v1610
def k0_mult216 (k0_t3 : Fin k0_t3_loop.trips) : BitVec 32 :=
  let c0_i32_517 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1621 : BitVec 32 := Scalar.addi c0_i32_517 v1505
  let c128_i32_518 : BitVec 32 := 128#32
  let v1622 : BitVec 32 := Scalar.muli v1621 c128_i32_518
  let c48_i32_519 : BitVec 32 := 48#32
  let v1623 : BitVec 32 := Scalar.addi v1622 c48_i32_519
  v1623
def k0_mult217 (k0_t3 : Fin k0_t3_loop.trips) : BitVec 32 :=
  let c0_i32_520 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1634 : BitVec 32 := Scalar.addi c0_i32_520 v1505
  let c128_i32_521 : BitVec 32 := 128#32
  let v1635 : BitVec 32 := Scalar.muli v1634 c128_i32_521
  let c64_i32_522 : BitVec 32 := 64#32
  let v1636 : BitVec 32 := Scalar.addi v1635 c64_i32_522
  v1636
def k0_mult218 (k0_t3 : Fin k0_t3_loop.trips) : BitVec 32 :=
  let c0_i32_523 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1647 : BitVec 32 := Scalar.addi c0_i32_523 v1505
  let c128_i32_524 : BitVec 32 := 128#32
  let v1648 : BitVec 32 := Scalar.muli v1647 c128_i32_524
  let c80_i32_525 : BitVec 32 := 80#32
  let v1649 : BitVec 32 := Scalar.addi v1648 c80_i32_525
  v1649
def k0_mult219 (k0_t3 : Fin k0_t3_loop.trips) : BitVec 32 :=
  let c0_i32_526 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1660 : BitVec 32 := Scalar.addi c0_i32_526 v1505
  let c128_i32_527 : BitVec 32 := 128#32
  let v1661 : BitVec 32 := Scalar.muli v1660 c128_i32_527
  let c96_i32_528 : BitVec 32 := 96#32
  let v1662 : BitVec 32 := Scalar.addi v1661 c96_i32_528
  v1662
def k0_mult220 (k0_t3 : Fin k0_t3_loop.trips) : BitVec 32 :=
  let c0_i32_529 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1673 : BitVec 32 := Scalar.addi c0_i32_529 v1505
  let c128_i32_530 : BitVec 32 := 128#32
  let v1674 : BitVec 32 := Scalar.muli v1673 c128_i32_530
  let c112_i32_531 : BitVec 32 := 112#32
  let v1675 : BitVec 32 := Scalar.addi v1674 c112_i32_531
  v1675
def k0_mult221 (k0_t3 : Fin k0_t3_loop.trips) : BitVec 32 :=
  let c128_i32_532 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1690 : BitVec 32 := Scalar.addi c128_i32_532 v1505
  let c128_i32_533 : BitVec 32 := 128#32
  let v1691 : BitVec 32 := Scalar.muli v1690 c128_i32_533
  let c0_i32_534 : BitVec 32 := 0#32
  let v1692 : BitVec 32 := Scalar.addi v1691 c0_i32_534
  v1692
def k0_mult222 (k0_t3 : Fin k0_t3_loop.trips) : BitVec 32 :=
  let c128_i32_535 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1703 : BitVec 32 := Scalar.addi c128_i32_535 v1505
  let c128_i32_536 : BitVec 32 := 128#32
  let v1704 : BitVec 32 := Scalar.muli v1703 c128_i32_536
  let c16_i32_537 : BitVec 32 := 16#32
  let v1705 : BitVec 32 := Scalar.addi v1704 c16_i32_537
  v1705
def k0_mult223 (k0_t3 : Fin k0_t3_loop.trips) : BitVec 32 :=
  let c128_i32_538 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1716 : BitVec 32 := Scalar.addi c128_i32_538 v1505
  let c128_i32_539 : BitVec 32 := 128#32
  let v1717 : BitVec 32 := Scalar.muli v1716 c128_i32_539
  let c32_i32_540 : BitVec 32 := 32#32
  let v1718 : BitVec 32 := Scalar.addi v1717 c32_i32_540
  v1718
def k0_mult224 (k0_t3 : Fin k0_t3_loop.trips) : BitVec 32 :=
  let c128_i32_541 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1729 : BitVec 32 := Scalar.addi c128_i32_541 v1505
  let c128_i32_542 : BitVec 32 := 128#32
  let v1730 : BitVec 32 := Scalar.muli v1729 c128_i32_542
  let c48_i32_543 : BitVec 32 := 48#32
  let v1731 : BitVec 32 := Scalar.addi v1730 c48_i32_543
  v1731
def k0_mult225 (k0_t3 : Fin k0_t3_loop.trips) : BitVec 32 :=
  let c128_i32_544 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1742 : BitVec 32 := Scalar.addi c128_i32_544 v1505
  let c128_i32_545 : BitVec 32 := 128#32
  let v1743 : BitVec 32 := Scalar.muli v1742 c128_i32_545
  let c64_i32_546 : BitVec 32 := 64#32
  let v1744 : BitVec 32 := Scalar.addi v1743 c64_i32_546
  v1744
def k0_mult226 (k0_t3 : Fin k0_t3_loop.trips) : BitVec 32 :=
  let c128_i32_547 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1755 : BitVec 32 := Scalar.addi c128_i32_547 v1505
  let c128_i32_548 : BitVec 32 := 128#32
  let v1756 : BitVec 32 := Scalar.muli v1755 c128_i32_548
  let c80_i32_549 : BitVec 32 := 80#32
  let v1757 : BitVec 32 := Scalar.addi v1756 c80_i32_549
  v1757
def k0_mult227 (k0_t3 : Fin k0_t3_loop.trips) : BitVec 32 :=
  let c128_i32_550 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1768 : BitVec 32 := Scalar.addi c128_i32_550 v1505
  let c128_i32_551 : BitVec 32 := 128#32
  let v1769 : BitVec 32 := Scalar.muli v1768 c128_i32_551
  let c96_i32_552 : BitVec 32 := 96#32
  let v1770 : BitVec 32 := Scalar.addi v1769 c96_i32_552
  v1770
def k0_mult228 (k0_t3 : Fin k0_t3_loop.trips) : BitVec 32 :=
  let c128_i32_553 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_467 : BitVec 32 := 8#32
  let v1504 : BitVec 32 := Scalar.muli v37 c8_i32_467
  let c5_i32 : BitVec 32 := 5#32
  let v1505 : BitVec 32 := Scalar.addi v1504 c5_i32
  let v1781 : BitVec 32 := Scalar.addi c128_i32_553 v1505
  let c128_i32_554 : BitVec 32 := 128#32
  let v1782 : BitVec 32 := Scalar.muli v1781 c128_i32_554
  let c112_i32_555 : BitVec 32 := 112#32
  let v1783 : BitVec 32 := Scalar.addi v1782 c112_i32_555
  v1783
def k0_mult229 (k0_t3 : Fin k0_t3_loop.trips) : BitVec 32 :=
  let c0_i32_597 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1872 : BitVec 32 := Scalar.addi c0_i32_597 v1795
  let c128_i32_598 : BitVec 32 := 128#32
  let v1873 : BitVec 32 := Scalar.muli v1872 c128_i32_598
  let c0_i32_599 : BitVec 32 := 0#32
  let v1874 : BitVec 32 := Scalar.addi v1873 c0_i32_599
  v1874
def k0_mult230 (k0_t3 : Fin k0_t3_loop.trips) : BitVec 32 :=
  let c0_i32_600 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1885 : BitVec 32 := Scalar.addi c0_i32_600 v1795
  let c128_i32_601 : BitVec 32 := 128#32
  let v1886 : BitVec 32 := Scalar.muli v1885 c128_i32_601
  let c16_i32_602 : BitVec 32 := 16#32
  let v1887 : BitVec 32 := Scalar.addi v1886 c16_i32_602
  v1887
def k0_mult231 (k0_t3 : Fin k0_t3_loop.trips) : BitVec 32 :=
  let c0_i32_603 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1898 : BitVec 32 := Scalar.addi c0_i32_603 v1795
  let c128_i32_604 : BitVec 32 := 128#32
  let v1899 : BitVec 32 := Scalar.muli v1898 c128_i32_604
  let c32_i32_605 : BitVec 32 := 32#32
  let v1900 : BitVec 32 := Scalar.addi v1899 c32_i32_605
  v1900
def k0_mult232 (k0_t3 : Fin k0_t3_loop.trips) : BitVec 32 :=
  let c0_i32_606 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1911 : BitVec 32 := Scalar.addi c0_i32_606 v1795
  let c128_i32_607 : BitVec 32 := 128#32
  let v1912 : BitVec 32 := Scalar.muli v1911 c128_i32_607
  let c48_i32_608 : BitVec 32 := 48#32
  let v1913 : BitVec 32 := Scalar.addi v1912 c48_i32_608
  v1913
def k0_mult233 (k0_t3 : Fin k0_t3_loop.trips) : BitVec 32 :=
  let c0_i32_609 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1924 : BitVec 32 := Scalar.addi c0_i32_609 v1795
  let c128_i32_610 : BitVec 32 := 128#32
  let v1925 : BitVec 32 := Scalar.muli v1924 c128_i32_610
  let c64_i32_611 : BitVec 32 := 64#32
  let v1926 : BitVec 32 := Scalar.addi v1925 c64_i32_611
  v1926
def k0_mult234 (k0_t3 : Fin k0_t3_loop.trips) : BitVec 32 :=
  let c0_i32_612 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1937 : BitVec 32 := Scalar.addi c0_i32_612 v1795
  let c128_i32_613 : BitVec 32 := 128#32
  let v1938 : BitVec 32 := Scalar.muli v1937 c128_i32_613
  let c80_i32_614 : BitVec 32 := 80#32
  let v1939 : BitVec 32 := Scalar.addi v1938 c80_i32_614
  v1939
def k0_mult235 (k0_t3 : Fin k0_t3_loop.trips) : BitVec 32 :=
  let c0_i32_615 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1950 : BitVec 32 := Scalar.addi c0_i32_615 v1795
  let c128_i32_616 : BitVec 32 := 128#32
  let v1951 : BitVec 32 := Scalar.muli v1950 c128_i32_616
  let c96_i32_617 : BitVec 32 := 96#32
  let v1952 : BitVec 32 := Scalar.addi v1951 c96_i32_617
  v1952
def k0_mult236 (k0_t3 : Fin k0_t3_loop.trips) : BitVec 32 :=
  let c0_i32_618 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1963 : BitVec 32 := Scalar.addi c0_i32_618 v1795
  let c128_i32_619 : BitVec 32 := 128#32
  let v1964 : BitVec 32 := Scalar.muli v1963 c128_i32_619
  let c112_i32_620 : BitVec 32 := 112#32
  let v1965 : BitVec 32 := Scalar.addi v1964 c112_i32_620
  v1965
def k0_mult237 (k0_t3 : Fin k0_t3_loop.trips) : BitVec 32 :=
  let c128_i32_621 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1980 : BitVec 32 := Scalar.addi c128_i32_621 v1795
  let c128_i32_622 : BitVec 32 := 128#32
  let v1981 : BitVec 32 := Scalar.muli v1980 c128_i32_622
  let c0_i32_623 : BitVec 32 := 0#32
  let v1982 : BitVec 32 := Scalar.addi v1981 c0_i32_623
  v1982
def k0_mult238 (k0_t3 : Fin k0_t3_loop.trips) : BitVec 32 :=
  let c128_i32_624 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v1993 : BitVec 32 := Scalar.addi c128_i32_624 v1795
  let c128_i32_625 : BitVec 32 := 128#32
  let v1994 : BitVec 32 := Scalar.muli v1993 c128_i32_625
  let c16_i32_626 : BitVec 32 := 16#32
  let v1995 : BitVec 32 := Scalar.addi v1994 c16_i32_626
  v1995
def k0_mult239 (k0_t3 : Fin k0_t3_loop.trips) : BitVec 32 :=
  let c128_i32_627 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v2006 : BitVec 32 := Scalar.addi c128_i32_627 v1795
  let c128_i32_628 : BitVec 32 := 128#32
  let v2007 : BitVec 32 := Scalar.muli v2006 c128_i32_628
  let c32_i32_629 : BitVec 32 := 32#32
  let v2008 : BitVec 32 := Scalar.addi v2007 c32_i32_629
  v2008
def k0_mult240 (k0_t3 : Fin k0_t3_loop.trips) : BitVec 32 :=
  let c128_i32_630 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v2019 : BitVec 32 := Scalar.addi c128_i32_630 v1795
  let c128_i32_631 : BitVec 32 := 128#32
  let v2020 : BitVec 32 := Scalar.muli v2019 c128_i32_631
  let c48_i32_632 : BitVec 32 := 48#32
  let v2021 : BitVec 32 := Scalar.addi v2020 c48_i32_632
  v2021
def k0_mult241 (k0_t3 : Fin k0_t3_loop.trips) : BitVec 32 :=
  let c128_i32_633 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v2032 : BitVec 32 := Scalar.addi c128_i32_633 v1795
  let c128_i32_634 : BitVec 32 := 128#32
  let v2033 : BitVec 32 := Scalar.muli v2032 c128_i32_634
  let c64_i32_635 : BitVec 32 := 64#32
  let v2034 : BitVec 32 := Scalar.addi v2033 c64_i32_635
  v2034
def k0_mult242 (k0_t3 : Fin k0_t3_loop.trips) : BitVec 32 :=
  let c128_i32_636 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v2045 : BitVec 32 := Scalar.addi c128_i32_636 v1795
  let c128_i32_637 : BitVec 32 := 128#32
  let v2046 : BitVec 32 := Scalar.muli v2045 c128_i32_637
  let c80_i32_638 : BitVec 32 := 80#32
  let v2047 : BitVec 32 := Scalar.addi v2046 c80_i32_638
  v2047
def k0_mult243 (k0_t3 : Fin k0_t3_loop.trips) : BitVec 32 :=
  let c128_i32_639 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v2058 : BitVec 32 := Scalar.addi c128_i32_639 v1795
  let c128_i32_640 : BitVec 32 := 128#32
  let v2059 : BitVec 32 := Scalar.muli v2058 c128_i32_640
  let c96_i32_641 : BitVec 32 := 96#32
  let v2060 : BitVec 32 := Scalar.addi v2059 c96_i32_641
  v2060
def k0_mult244 (k0_t3 : Fin k0_t3_loop.trips) : BitVec 32 :=
  let c128_i32_642 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_556 : BitVec 32 := 8#32
  let v1794 : BitVec 32 := Scalar.muli v37 c8_i32_556
  let c6_i32 : BitVec 32 := 6#32
  let v1795 : BitVec 32 := Scalar.addi v1794 c6_i32
  let v2071 : BitVec 32 := Scalar.addi c128_i32_642 v1795
  let c128_i32_643 : BitVec 32 := 128#32
  let v2072 : BitVec 32 := Scalar.muli v2071 c128_i32_643
  let c112_i32_644 : BitVec 32 := 112#32
  let v2073 : BitVec 32 := Scalar.addi v2072 c112_i32_644
  v2073
def k0_mult245 (k0_t3 : Fin k0_t3_loop.trips) : BitVec 32 :=
  let c0_i32_686 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2162 : BitVec 32 := Scalar.addi c0_i32_686 v2085
  let c128_i32_687 : BitVec 32 := 128#32
  let v2163 : BitVec 32 := Scalar.muli v2162 c128_i32_687
  let c0_i32_688 : BitVec 32 := 0#32
  let v2164 : BitVec 32 := Scalar.addi v2163 c0_i32_688
  v2164
def k0_mult246 (k0_t3 : Fin k0_t3_loop.trips) : BitVec 32 :=
  let c0_i32_689 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2175 : BitVec 32 := Scalar.addi c0_i32_689 v2085
  let c128_i32_690 : BitVec 32 := 128#32
  let v2176 : BitVec 32 := Scalar.muli v2175 c128_i32_690
  let c16_i32_691 : BitVec 32 := 16#32
  let v2177 : BitVec 32 := Scalar.addi v2176 c16_i32_691
  v2177
def k0_mult247 (k0_t3 : Fin k0_t3_loop.trips) : BitVec 32 :=
  let c0_i32_692 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2188 : BitVec 32 := Scalar.addi c0_i32_692 v2085
  let c128_i32_693 : BitVec 32 := 128#32
  let v2189 : BitVec 32 := Scalar.muli v2188 c128_i32_693
  let c32_i32_694 : BitVec 32 := 32#32
  let v2190 : BitVec 32 := Scalar.addi v2189 c32_i32_694
  v2190
def k0_mult248 (k0_t3 : Fin k0_t3_loop.trips) : BitVec 32 :=
  let c0_i32_695 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2201 : BitVec 32 := Scalar.addi c0_i32_695 v2085
  let c128_i32_696 : BitVec 32 := 128#32
  let v2202 : BitVec 32 := Scalar.muli v2201 c128_i32_696
  let c48_i32_697 : BitVec 32 := 48#32
  let v2203 : BitVec 32 := Scalar.addi v2202 c48_i32_697
  v2203
def k0_mult249 (k0_t3 : Fin k0_t3_loop.trips) : BitVec 32 :=
  let c0_i32_698 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2214 : BitVec 32 := Scalar.addi c0_i32_698 v2085
  let c128_i32_699 : BitVec 32 := 128#32
  let v2215 : BitVec 32 := Scalar.muli v2214 c128_i32_699
  let c64_i32_700 : BitVec 32 := 64#32
  let v2216 : BitVec 32 := Scalar.addi v2215 c64_i32_700
  v2216
def k0_mult250 (k0_t3 : Fin k0_t3_loop.trips) : BitVec 32 :=
  let c0_i32_701 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2227 : BitVec 32 := Scalar.addi c0_i32_701 v2085
  let c128_i32_702 : BitVec 32 := 128#32
  let v2228 : BitVec 32 := Scalar.muli v2227 c128_i32_702
  let c80_i32_703 : BitVec 32 := 80#32
  let v2229 : BitVec 32 := Scalar.addi v2228 c80_i32_703
  v2229
def k0_mult251 (k0_t3 : Fin k0_t3_loop.trips) : BitVec 32 :=
  let c0_i32_704 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2240 : BitVec 32 := Scalar.addi c0_i32_704 v2085
  let c128_i32_705 : BitVec 32 := 128#32
  let v2241 : BitVec 32 := Scalar.muli v2240 c128_i32_705
  let c96_i32_706 : BitVec 32 := 96#32
  let v2242 : BitVec 32 := Scalar.addi v2241 c96_i32_706
  v2242
def k0_mult252 (k0_t3 : Fin k0_t3_loop.trips) : BitVec 32 :=
  let c0_i32_707 : BitVec 32 := 0#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2253 : BitVec 32 := Scalar.addi c0_i32_707 v2085
  let c128_i32_708 : BitVec 32 := 128#32
  let v2254 : BitVec 32 := Scalar.muli v2253 c128_i32_708
  let c112_i32_709 : BitVec 32 := 112#32
  let v2255 : BitVec 32 := Scalar.addi v2254 c112_i32_709
  v2255
def k0_mult253 (k0_t3 : Fin k0_t3_loop.trips) : BitVec 32 :=
  let c128_i32_710 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2270 : BitVec 32 := Scalar.addi c128_i32_710 v2085
  let c128_i32_711 : BitVec 32 := 128#32
  let v2271 : BitVec 32 := Scalar.muli v2270 c128_i32_711
  let c0_i32_712 : BitVec 32 := 0#32
  let v2272 : BitVec 32 := Scalar.addi v2271 c0_i32_712
  v2272
def k0_mult254 (k0_t3 : Fin k0_t3_loop.trips) : BitVec 32 :=
  let c128_i32_713 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2283 : BitVec 32 := Scalar.addi c128_i32_713 v2085
  let c128_i32_714 : BitVec 32 := 128#32
  let v2284 : BitVec 32 := Scalar.muli v2283 c128_i32_714
  let c16_i32_715 : BitVec 32 := 16#32
  let v2285 : BitVec 32 := Scalar.addi v2284 c16_i32_715
  v2285
def k0_mult255 (k0_t3 : Fin k0_t3_loop.trips) : BitVec 32 :=
  let c128_i32_716 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2296 : BitVec 32 := Scalar.addi c128_i32_716 v2085
  let c128_i32_717 : BitVec 32 := 128#32
  let v2297 : BitVec 32 := Scalar.muli v2296 c128_i32_717
  let c32_i32_718 : BitVec 32 := 32#32
  let v2298 : BitVec 32 := Scalar.addi v2297 c32_i32_718
  v2298
def k0_mult256 (k0_t3 : Fin k0_t3_loop.trips) : BitVec 32 :=
  let c128_i32_719 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2309 : BitVec 32 := Scalar.addi c128_i32_719 v2085
  let c128_i32_720 : BitVec 32 := 128#32
  let v2310 : BitVec 32 := Scalar.muli v2309 c128_i32_720
  let c48_i32_721 : BitVec 32 := 48#32
  let v2311 : BitVec 32 := Scalar.addi v2310 c48_i32_721
  v2311
def k0_mult257 (k0_t3 : Fin k0_t3_loop.trips) : BitVec 32 :=
  let c128_i32_722 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2322 : BitVec 32 := Scalar.addi c128_i32_722 v2085
  let c128_i32_723 : BitVec 32 := 128#32
  let v2323 : BitVec 32 := Scalar.muli v2322 c128_i32_723
  let c64_i32_724 : BitVec 32 := 64#32
  let v2324 : BitVec 32 := Scalar.addi v2323 c64_i32_724
  v2324
def k0_mult258 (k0_t3 : Fin k0_t3_loop.trips) : BitVec 32 :=
  let c128_i32_725 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2335 : BitVec 32 := Scalar.addi c128_i32_725 v2085
  let c128_i32_726 : BitVec 32 := 128#32
  let v2336 : BitVec 32 := Scalar.muli v2335 c128_i32_726
  let c80_i32_727 : BitVec 32 := 80#32
  let v2337 : BitVec 32 := Scalar.addi v2336 c80_i32_727
  v2337
def k0_mult259 (k0_t3 : Fin k0_t3_loop.trips) : BitVec 32 :=
  let c128_i32_728 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2348 : BitVec 32 := Scalar.addi c128_i32_728 v2085
  let c128_i32_729 : BitVec 32 := 128#32
  let v2349 : BitVec 32 := Scalar.muli v2348 c128_i32_729
  let c96_i32_730 : BitVec 32 := 96#32
  let v2350 : BitVec 32 := Scalar.addi v2349 c96_i32_730
  v2350
def k0_mult260 (k0_t3 : Fin k0_t3_loop.trips) : BitVec 32 :=
  let c128_i32_731 : BitVec 32 := 128#32
  let c0_i32_26 : BitVec 32 := 0#32
  let c0_i32_21 : BitVec 32 := 0#32
  let c1_i32_23 : BitVec 32 := 1#32
  let arg12 : BitVec 32 := Scf.iv c0_i32_21 c1_i32_23 k0_t3
  let c1_i32_25 : BitVec 32 := 1#32
  let v36 : BitVec 32 := Scalar.muli arg12 c1_i32_25
  let v37 : BitVec 32 := Scalar.addi c0_i32_26 v36
  let c8_i32_645 : BitVec 32 := 8#32
  let v2084 : BitVec 32 := Scalar.muli v37 c8_i32_645
  let c7_i32 : BitVec 32 := 7#32
  let v2085 : BitVec 32 := Scalar.addi v2084 c7_i32
  let v2361 : BitVec 32 := Scalar.addi c128_i32_731 v2085
  let c128_i32_732 : BitVec 32 := 128#32
  let v2362 : BitVec 32 := Scalar.muli v2361 c128_i32_732
  let c112_i32_733 : BitVec 32 := 112#32
  let v2363 : BitVec 32 := Scalar.addi v2362 c112_i32_733
  v2363
def k0_off41 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c124_i32 : BitVec 32 := 124#32
  let v4 : BitVec 32 := Scalar.addi v2 c124_i32
  let c128_i32_2 : BitVec 32 := 128#32
  let v5 : BitVec 32 := Scalar.muli v4 c128_i32_2
  let c128_i32_3 : BitVec 32 := 128#32
  let v6 : BitVec 32 := Scalar.muli v5 c128_i32_3
  ![v6.toNat]
def k0_off42 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c124_i32 : BitVec 32 := 124#32
  let v4 : BitVec 32 := Scalar.addi v2 c124_i32
  let c128_i32_2 : BitVec 32 := 128#32
  let v5 : BitVec 32 := Scalar.muli v4 c128_i32_2
  let c128_i32_3 : BitVec 32 := 128#32
  let v6 : BitVec 32 := Scalar.muli v5 c128_i32_3
  let c32768_i32 : BitVec 32 := 32768#32
  let v9 : BitVec 32 := Scalar.addi v6 c32768_i32
  ![v9.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x256 : Shape := ⟨2, ![4096, 256]⟩
abbrev S256x128 : Shape := ⟨2, ![256, 128]⟩
abbrev S256x2 : Shape := ⟨2, ![256, 2]⟩
abbrev S256x1 : Shape := ⟨2, ![256, 1]⟩
abbrev S256 : Shape := ⟨1, ![256]⟩
abbrev S_ : Shape := ⟨0, ![]⟩
abbrev S1 : Shape := ⟨1, ![1]⟩
abbrev S1x1 : Shape := ⟨2, ![1, 1]⟩
abbrev S1x256x128 : Shape := ⟨3, ![1, 256, 128]⟩
abbrev S4096x256x1 : Shape := ⟨3, ![4096, 256, 1]⟩
abbrev S4096x256x128 : Shape := ⟨3, ![4096, 256, 128]⟩
abbrev S256x4096x128 : Shape := ⟨3, ![256, 4096, 128]⟩
abbrev S128x4096x128 : Shape := ⟨3, ![128, 4096, 128]⟩
abbrev S4096x128x128 : Shape := ⟨3, ![4096, 128, 128]⟩

abbrev nBuf : Space → Nat
  | .hbm => 41
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x128, .f32⟩
  | .hbm, ⟨2, _⟩ => ⟨S256x2, .i32⟩
  | .hbm, ⟨3, _⟩ => ⟨S256x1, .i32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256x1, .i32⟩
  | .hbm, ⟨13, _⟩ => ⟨S1, .i32⟩
  | .hbm, ⟨14, _⟩ => ⟨S_, .i32⟩
  | .hbm, ⟨15, _⟩ => ⟨S256x1, .i32⟩
  | .hbm, ⟨16, _⟩ => ⟨S256x1, .i1⟩
  | .hbm, ⟨17, _⟩ => ⟨S1x1, .i32⟩
  | .hbm, ⟨18, _⟩ => ⟨S256x1, .i32⟩
  | .hbm, ⟨19, _⟩ => ⟨S256x1, .i1⟩
  | .hbm, ⟨20, _⟩ => ⟨S256x1, .i1⟩
  | .hbm, ⟨21, _⟩ => ⟨S_, .i1⟩
  | .hbm, ⟨22, _⟩ => ⟨S256, .i1⟩
  | .hbm, ⟨23, _⟩ => ⟨S4096x256, .f32⟩
  | .hbm, ⟨24, _⟩ => ⟨S4096x256, .i1⟩
  | .hbm, ⟨25, _⟩ => ⟨S_, .f32⟩
  | .hbm, ⟨26, _⟩ => ⟨S4096x256, .f32⟩
  | .hbm, ⟨27, _⟩ => ⟨S4096x256, .f32⟩
  | .hbm, ⟨28, _⟩ => ⟨S1x256x128, .f32⟩
  | .hbm, ⟨29, _⟩ => ⟨S4096x256x1, .f32⟩
  | .hbm, ⟨30, _⟩ => ⟨S4096x256x128, .f32⟩
  | .hbm, ⟨31, _⟩ => ⟨S4096x256x128, .f32⟩
  | .hbm, ⟨32, _⟩ => ⟨S4096x256x128, .f32⟩
  | .hbm, ⟨33, _⟩ => ⟨S256x4096x128, .f32⟩
  | .hbm, ⟨34, _⟩ => ⟨S256x1, .i32⟩
  | .hbm, ⟨35, _⟩ => ⟨S256, .i32⟩
  | .hbm, ⟨36, _⟩ => ⟨S_, .f32⟩
  | .hbm, ⟨37, _⟩ => ⟨S128x4096x128, .f32⟩
  | .hbm, ⟨38, _⟩ => ⟨S256x1, .i32⟩
  | .hbm, ⟨39, _⟩ => ⟨S128x4096x128, .f32⟩
  | .hbm, ⟨40, _⟩ => ⟨S4096x128x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩

abbrev nD : Nat := 1
abbrev τ : Topo := Topo.v7x

variable {F : FTy → Type} [FloatOps F]
-- ==== Proof.Setup.lean ====
/-
  The program as the launch theorem for SparseCore calls sees it, the ghost state of the proof, and the names the other
  modules use for the arrays, the scratch buffers and the threads. Everything here is stated for any float operations
  `F`, so that one run serves both the machine floats and the exact reals.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.PairSum

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the handshakes' rounds beside the transfers' counters -/

abbrev UH : Type := URounds (GSem nD τ sig) ℕ
abbrev UU : Type := UH × Counters
abbrev EH : Emb UH (MT nD τ sig (HIx 1) (Elt F) ℕ UU ℕ) := embL

/-! ## The arrays and the threads -/

abbrev xLoc (d : Dev nD) : Loc nD τ sig := (SparseCore.T d).loc main_arg0
abbrev wLoc (d : Dev nD) : Loc nD τ sig := (SparseCore.T d).loc main_arg1
abbrev oLoc (d : Dev nD) : Loc nD τ sig := (SparseCore.T d).loc main_v0

/-- The SparseCore and the subcore of a grid point, and the thread that runs there. -/
abbrev cV (L : grid0.Coords) : Fin τ.nSC := (L 0).castLE hcore0
abbrev jV (L : grid0.Coords) : Fin τ.nSub := (L 1).castLE hsub0
abbrev tile (d : Dev nD) (L : grid0.Coords) : Thread nD τ := V d (cV L) (jV L)

end Cert.Proof.PairSum
-- ==== Proof.Value.lean ====
/-
  The value the kernel computes, as plain functions of the two arrays: word `n` of the result is, with `row = n / 16384`,
  `g = n / 128 % 128` and `v = n % 128`, the two-term product sum `x[row, 2g] * w[2g, v] + x[row, 2g+1] * w[2g+1, v]`.
  Arrays are read at natural-number coordinates (`at2`), so that the bookkeeping below is arithmetic on naturals.
-/
module

public import proofs.«01_k».proof.Proof.Setup
public import Idealize.ShloMosaic.Lib.ValueLayout
public import Idealize.ShloMosaic.Lib.Writes

@[expose] public section

noncomputable section

namespace Cert.Proof.PairSum

open Cert.KernelIdeal Cert.KernelIdeal.Gen
open Idealize.ShloMosaic Idealize.ShloMosaic.ValueIdx

variable {F : FTy → Type}

local notation "wS" => (Memref.whole Cert.KernelIdeal.cc0_scratch0 : Memref Cert.KernelIdeal.sig Kind.scVector Space.vmem Cert.KernelIdeal.S256x128 EltTy.f32)
local notation "xS" => (Memref.whole Cert.KernelIdeal.cc0_scratch1 : Memref Cert.KernelIdeal.sig Kind.scVector Space.vmem Cert.KernelIdeal.S128x256 EltTy.f32)

/-! ## Reading a matrix at natural coordinates -/

/-- The matrix at row `a`, column `b`, each taken modulo its extent. -/
def at2 {α : Type} {n0 n1 : ℕ} [NeZero n0] [NeZero n1] (f : (⟨2, ![n0, n1]⟩ : Shape).Idx → α) (a b : ℕ) : α :=
  f (ix2 (Fin.ofNat n0 a) (Fin.ofNat n1 b))

theorem at2_of {α : Type} {n0 n1 : ℕ} [NeZero n0] [NeZero n1] (f : (⟨2, ![n0, n1]⟩ : Shape).Idx → α)
    (j : (⟨2, ![n0, n1]⟩ : Shape).Idx) {a b : ℕ} (h0 : (j 0).val = a) (h1 : (j 1).val = b) : f j = at2 f a b := by
  subst h0 h1
  unfold at2
  have e0 : Fin.ofNat n0 (j 0).val = j 0 := Fin.ext (Nat.mod_eq_of_lt (j 0).isLt)
  have e1 : Fin.ofNat n1 (j 1).val = j 1 := Fin.ext (Nat.mod_eq_of_lt (j 1).isLt)
  rw [e0, e1]
  exact congrArg f (eq_ix2 j)

variable [FloatOps F]

/-! ## The value -/

/-- `x[row, 2g] * w[2g, v] + x[row, 2g+1] * w[2g+1, v]`. -/
def pairDot {n : ℕ} [NeZero n] (x : (⟨2, ![n, 256]⟩ : Shape).Idx → F .f32) (w : S256x128.Idx → F .f32) (row g v : ℕ) : F .f32 :=
  FloatOps.addf (FloatOps.mulf (at2 x row (2 * g)) (at2 w (2 * g) v)) (FloatOps.mulf (at2 x row (2 * g + 1)) (at2 w (2 * g + 1) v))

/-- Word `n` of a block of result rows that starts at row `rb` of `x`. -/
def blockVal {k : ℕ} [NeZero k] (x : (⟨2, ![k, 256]⟩ : Shape).Idx → F .f32) (w : S256x128.Idx → F .f32) (rb n : ℕ) : F .f32 :=
  pairDot x w (rb + n / 16384) (n / 128 % 128) (n % 128)

/-- The whole result, as the kernel's flat output array holds it. -/
def outVal (x : S4096x256.Idx → F .f32) (w : S256x128.Idx → F .f32) : S67108864.Idx → F .f32 :=
  fun y => blockVal x w 0 (y 0).val

/-- A chunk of two result rows whose first `8 t` pairs are done. -/
def Done (fx : S128x256.Idx → F .f32) (fw : S256x128.Idx → F .f32) (rb t : ℕ) (f : S32768.Idx → F .f32) : Prop :=
  ∀ y : S32768.Idx, (y 0).val / 128 % 128 < 8 * t → f y = blockVal fx fw rb (y 0).val

theorem Done.zero (fx : S128x256.Idx → F .f32) (fw : S256x128.Idx → F .f32) (rb : ℕ) (f : S32768.Idx → F .f32) : Done fx fw rb 0 f :=
  fun _ h => absurd h (by omega)

theorem Done.all {fx : S128x256.Idx → F .f32} {fw : S256x128.Idx → F .f32} {rb : ℕ} {f : S32768.Idx → F .f32} (h : Done fx fw rb 16 f) :
    f = fun y => blockVal fx fw rb (y 0).val :=
  funext fun y => h y (by omega)

/-! ## One store's sixteen lanes -/

omit [FloatOps F] in
theorem slices_even (u : Fin 8) : S16.Slices ![2 * u.val] S1 := by revert u; decide
omit [FloatOps F] in
theorem slices_odd (u : Fin 8) : S16.Slices ![2 * u.val + 1] S1 := by revert u; decide

/-- The payload of one store: entries `2u` and `2u + 1` of a row of sixteen, each times a row of sixteen weights. -/
def pairPay (u : Fin 8) (xr a b : Vec F S1x16 .f32) : FVec F S16 .f32 :=
  shapeCast S16
    (addf
      (mulf (broadcast S16 (extractAt ![0] (extractStridedSlice S1 ![2 * u.val] (shapeCast S16 xr shapeCasts_S1x16_S16) (slices_even u)) inpos_S1_p0))
        (shapeCast S16 a shapeCasts_S1x16_S16))
      (mulf (broadcast S16 (extractAt ![0] (extractStridedSlice S1 ![2 * u.val + 1] (shapeCast S16 xr shapeCasts_S1x16_S16) (slices_odd u)) inpos_S1_p0))
        (shapeCast S16 b shapeCasts_S1x16_S16)))
    shapeCasts_S16_S16

omit [FloatOps F] in
/-- A `1 × 16` row read flat. -/
theorem flat_apply (xr : Vec F S1x16 .f32) (l : S16.Idx) :
    shapeCast S16 xr shapeCasts_S1x16_S16 l = at2 (n0 := 1) (n1 := 16) xr 0 (l 0).val := by
  have h := shapeCast_1a_a_apply (a := 16) xr shapeCasts_S1x16_S16 (l 0)
  rw [show l = ix1 (n := 16) (l 0) from eq_ix1 (n := 16) l]
  exact h.trans (at2_of (n0 := 1) (n1 := 16) xr (ix2 0 (l 0)) rfl rfl)

omit [FloatOps F] in
/-- Entry `o` of a `1 × 16` row, extracted as the kernel does it. -/
theorem entry_apply (xr : Vec F S1x16 .f32) (o : ℕ) (ho : o < 16) (h : S16.Slices ![o] S1) :
    extractAt ![0] (extractStridedSlice S1 ![o] (shapeCast S16 xr shapeCasts_S1x16_S16) h) inpos_S1_p0 = at2 xr 0 o := by
  unfold extractAt extractStridedSlice
  rw [flat_apply]
  rfl

theorem pairPay_apply (u : Fin 8) (xr a b : Vec F S1x16 .f32) (l : S16.Idx) :
    pairPay u xr a b l
      = FloatOps.addf (FloatOps.mulf (at2 xr 0 (2 * u.val)) (at2 a 0 (l 0).val))
          (FloatOps.mulf (at2 xr 0 (2 * u.val + 1)) (at2 b 0 (l 0).val)) := by
  have hu := u.isLt
  unfold pairPay
  rw [shapeCast_self]
  unfold addf mulf broadcast
  rw [entry_apply xr _ (by omega), entry_apply xr _ (by omega), flat_apply, flat_apply]

/-! ## The stores of one trip -/

omit [FloatOps F] in
/-- A row of sixteen read out of a matrix held whole. -/
theorem row_apply {n0 n1 : ℕ} [NeZero n0] [NeZero n1] (f : (⟨2, ![n0, n1]⟩ : Shape).Idx → F .f32) {off : Fin 2 → ℕ}
    (inb : ∀ a, off a + S1x16.size a ≤ (⟨2, ![n0, n1]⟩ : Shape).size a) {p q : ℕ} (hoff : off = ![p, q]) (l : ℕ) (hl : l < 16) :
    at2 (n0 := 1) (n1 := 16) (fun z : S1x16.Idx => f ((Rect.unit (s := ⟨2, ![n0, n1]⟩) off S1x16.size inb).toLoadRect.idx z)) 0 l
      = at2 f p (q + l) := by
  subst hoff
  unfold at2
  refine at2_of f _ ?_ ?_
  · show p + 1 * 0 = p
    omega
  · show q + 1 * (l % 16) = q + l
    rw [Nat.mod_eq_of_lt hl]; omega

/-- Where one trip of a chunk's inner loop reads and stores: for row `r` of the chunk the sixteen entries of `x`, for pair `u` of the trip and
    block `j` of sixteen columns the two rows of weights, and the word of the chunk the sixteen lanes go to. `t` is the trip and `rb` the first
    of the chunk's two rows. -/
structure Offs (rb t : ℕ) where
  x : Fin 2 → Fin 2 → ℕ
  we : Fin 8 → Fin 8 → Fin 2 → ℕ
  wo : Fin 8 → Fin 8 → Fin 2 → ℕ
  st : Fin 2 → Fin 8 → Fin 8 → Fin 1 → ℕ
  x_inb : ∀ r a, x r a + S1x16.size a ≤ S128x256.size a
  we_inb : ∀ j u a, we j u a + S1x16.size a ≤ S256x128.size a
  wo_inb : ∀ j u a, wo j u a + S1x16.size a ≤ S256x128.size a
  st_inb : ∀ r u j a, st r u j a + S16.size a ≤ S32768.size a
  x_eq : ∀ r, x r = ![rb + r.val, 16 * t]
  we_eq : ∀ j u, we j u = ![16 * t + 2 * u.val, 16 * j.val]
  wo_eq : ∀ j u, wo j u = ![16 * t + 2 * u.val + 1, 16 * j.val]
  st_eq : ∀ r u j, st r u j = ![16384 * r.val + 1024 * t + 128 * u.val + 16 * j.val]

namespace Offs

variable {rb t : ℕ} (O : Offs rb t)

/-- One store of the trip: its sixteen words of the chunk and what it leaves there. -/
def piece (fx : S128x256.Idx → F .f32) (fw : S256x128.Idx → F .f32) (u : Fin 8) (r : Fin 2) (j : Fin 8) :
    View.Piece (Elt F) S32768 .f32 :=
  ⟨Rect.unit (s := S32768) (O.st r u j) S16.size (O.st_inb r u j),
    pairPay u (View.readAt (Elt F) (xS).view (Rect.unit (s := S128x256) (O.x r) S1x16.size (O.x_inb r)).toLoadRect fx)
      (View.readAt (Elt F) (wS).view (Rect.unit (s := S256x128) (O.we j u) S1x16.size (O.we_inb j u)).toLoadRect fw)
      (View.readAt (Elt F) (wS).view (Rect.unit (s := S256x128) (O.wo j u) S1x16.size (O.wo_inb j u)).toLoadRect fw)⟩

/-- All of the trip's stores, the last first. -/
def pieces (fx : S128x256.Idx → F .f32) (fw : S256x128.Idx → F .f32) : List (View.Piece (Elt F) S32768 .f32) :=
  [7, 6, 5, 4, 3, 2, 1, 0].flatMap fun u => [1, 0].flatMap fun r => [7, 6, 5, 4, 3, 2, 1, 0].map fun j => O.piece fx fw u r j

theorem mem_pieces (fx : S128x256.Idx → F .f32) (fw : S256x128.Idx → F .f32) (p : View.Piece (Elt F) S32768 .f32) :
    p ∈ O.pieces fx fw ↔ ∃ u r j, p = O.piece fx fw u r j := by
  have h8 : ∀ u : Fin 8, u ∈ ([7, 6, 5, 4, 3, 2, 1, 0] : List (Fin 8)) := by decide
  have h2 : ∀ r : Fin 2, r ∈ ([1, 0] : List (Fin 2)) := by decide
  unfold pieces
  simp only [List.mem_flatMap, List.mem_map]
  constructor
  · rintro ⟨u, -, r, -, j, -, rfl⟩
    exact ⟨u, r, j, rfl⟩
  · rintro ⟨u, r, j, rfl⟩
    exact ⟨u, h8 u, r, h2 r, j, h8 j, rfl⟩

/-- A store leaves the chunk's value on its words. -/
theorem piece_agrees (ht : t < 16) (hrb : rb + 2 ≤ 128) (fx : S128x256.Idx → F .f32) (fw : S256x128.Idx → F .f32) (u : Fin 8) (r : Fin 2) (j : Fin 8)
    (l : (O.piece fx fw u r j).1.shape.Idx) :
    (O.piece fx fw u r j).2 l = blockVal fx fw rb (((O.piece fx fw u r j).1.emb l) 0).val := by
  have hu := u.isLt
  have hr := r.isLt
  have hj := j.isLt
  have hl : (l 0).val < 16 := (l 0).isLt
  have hpos : (((O.piece fx fw u r j).1.emb l) 0).val = 16384 * r.val + 1024 * t + 128 * u.val + 16 * j.val + (l 0).val := by
    show O.st r u j 0 + 1 * (l 0).val = _
    rw [O.st_eq]
    show 16384 * r.val + 1024 * t + 128 * u.val + 16 * j.val + 1 * (l 0).val = _
    omega
  rw [hpos]
  refine (pairPay_apply u _ _ _ l).trans ?_
  have hx : ∀ k, k < 16 → at2 (n0 := 1) (n1 := 16) (View.readAt (Elt F) (xS).view
      (Rect.unit (s := S128x256) (O.x r) S1x16.size (O.x_inb r)).toLoadRect fx) 0 k = at2 fx (rb + r.val) (16 * t + k) := fun k hk =>
    row_apply fx (O.x_inb r) (O.x_eq r) k hk
  have he : at2 (n0 := 1) (n1 := 16) (View.readAt (Elt F) (wS).view
      (Rect.unit (s := S256x128) (O.we j u) S1x16.size (O.we_inb j u)).toLoadRect fw) 0 (l 0).val = at2 fw (16 * t + 2 * u.val) (16 * j.val + (l 0).val) :=
    row_apply fw (O.we_inb j u) (O.we_eq j u) _ hl
  have ho : at2 (n0 := 1) (n1 := 16) (View.readAt (Elt F) (wS).view
      (Rect.unit (s := S256x128) (O.wo j u) S1x16.size (O.wo_inb j u)).toLoadRect fw) 0 (l 0).val = at2 fw (16 * t + 2 * u.val + 1) (16 * j.val + (l 0).val) :=
    row_apply fw (O.wo_inb j u) (O.wo_eq j u) _ hl
  rw [hx _ (by omega), hx _ (by omega), he, ho]
  unfold blockVal pairDot
  have e1 : (16384 * r.val + 1024 * t + 128 * u.val + 16 * j.val + (l 0).val) / 16384 = r.val := by omega
  have e2 : (16384 * r.val + 1024 * t + 128 * u.val + 16 * j.val + (l 0).val) / 128 % 128 = 8 * t + u.val := by omega
  have e3 : (16384 * r.val + 1024 * t + 128 * u.val + 16 * j.val + (l 0).val) % 128 = 16 * j.val + (l 0).val := by omega
  have e4 : 2 * (8 * t + u.val) = 16 * t + 2 * u.val := by omega
  rw [e1, e2, e3, e4, Nat.add_assoc (16 * t) (2 * u.val) 1]

/-- The trip's stores cover the words of its eight pairs. -/
theorem pieces_cover (fx : S128x256.Idx → F .f32) (fw : S256x128.Idx → F .f32) (y : S32768.Idx)
    (h0 : 8 * t ≤ (y 0).val / 128 % 128) (h1 : (y 0).val / 128 % 128 < 8 * t + 8) : ∃ p ∈ O.pieces fx fw, y ∈ p.1.set := by
  have hy : (y 0).val < 32768 := (y 0).isLt
  refine ⟨O.piece fx fw ⟨(y 0).val / 128 % 128 - 8 * t, by omega⟩ ⟨(y 0).val / 16384, by omega⟩ ⟨(y 0).val % 128 / 16, by omega⟩,
    (O.mem_pieces fx fw _).2 ⟨_, _, _, rfl⟩, ?_⟩
  refine (Rect.mem_set_unit (inb := O.st_inb _ _ _)).2 fun a => ?_
  obtain rfl : a = 0 := Subsingleton.elim _ _
  rw [O.st_eq]
  show 16384 * ((y 0).val / 16384) + 1024 * t + 128 * ((y 0).val / 128 % 128 - 8 * t) + 16 * ((y 0).val % 128 / 16) ≤ (y 0).val
    ∧ (y 0).val < 16384 * ((y 0).val / 16384) + 1024 * t + 128 * ((y 0).val / 128 % 128 - 8 * t) + 16 * ((y 0).val % 128 / 16) + 16
  omega

/-- So a trip carries the chunk from its first `8 t` pairs done to its first `8 (t + 1)`. -/
theorem writes_done (ht : t < 16) (hrb : rb + 2 ≤ 128) (fx : S128x256.Idx → F .f32) (fw : S256x128.Idx → F .f32)
    {κ : Kind} {sp : Space} (v : View sig κ sp S32768 .f32) (f : v.ty.Contents (Elt F))
    (hf : ∀ y : S32768.Idx, (y 0).val / 128 % 128 < 8 * t → v.read (Elt F) f y = blockVal fx fw rb (y 0).val)
    (y : S32768.Idx) (hy : (y 0).val / 128 % 128 < 8 * (t + 1)) :
    v.read (Elt F) (v.writes (Elt F) f (O.pieces fx fw)) y = blockVal fx fw rb (y 0).val := by
  have ha : ∀ p ∈ O.pieces fx fw, ∀ l : p.1.shape.Idx, p.2 l = (fun y : S32768.Idx => blockVal fx fw rb (y 0).val) (p.1.emb l) := by
    intro p hp
    obtain ⟨u, r, j, rfl⟩ := (O.mem_pieces fx fw p).1 hp
    exact O.piece_agrees ht hrb fx fw u r j
  by_cases hc : ∃ p ∈ O.pieces fx fw, y ∈ p.1.set
  · exact View.read_writes_apply_of_pieces v f (fun y : S32768.Idx => blockVal fx fw rb (y 0).val) _ ha y hc
  · rw [View.read_writes_apply_of_forall_not_mem v f y _ fun p hp hy => hc ⟨p, hp, hy⟩]
    refine hf y ?_
    by_contra hlt
    exact hc (O.pieces_cover fx fw y (by omega) (by omega))

end Offs

end Cert.Proof.PairSum
-- ==== Proof.Trip.lean ====
/-
  One trip of a chunk's inner loop: it reads two rows of sixteen entries of `x` and sixteen rows of weights and stores eight pairs' product sums
  for two rows of the result. Proved once for each of the two loops (they differ in their offsets and in the chunk they fill) by running the
  trip's text and reading the hundred and twenty-eight stores as the family `Offs.pieces`.
-/
module

public import proofs.«01_k».proof.Proof.Value

@[expose] public section

noncomputable section

namespace Cert.Proof.PairSum
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ
local notation "xW" => (Memref.whole Cert.KernelIdeal.main_arg0_scv : Memref Cert.KernelIdeal.sig Kind.scVector Space.hbm Cert.KernelIdeal.S4096x256 EltTy.f32)
local notation "wW" => (Memref.whole Cert.KernelIdeal.main_arg1_scv : Memref Cert.KernelIdeal.sig Kind.scVector Space.hbm Cert.KernelIdeal.S256x128 EltTy.f32)
local notation "oW" => (Memref.whole Cert.KernelIdeal.main_v0_scv : Memref Cert.KernelIdeal.sig Kind.scVector Space.hbm Cert.KernelIdeal.S67108864 EltTy.f32)
local notation "wS" => (Memref.whole Cert.KernelIdeal.cc0_scratch0 : Memref Cert.KernelIdeal.sig Kind.scVector Space.vmem Cert.KernelIdeal.S256x128 EltTy.f32)
local notation "xS" => (Memref.whole Cert.KernelIdeal.cc0_scratch1 : Memref Cert.KernelIdeal.sig Kind.scVector Space.vmem Cert.KernelIdeal.S128x256 EltTy.f32)
local notation "aS" => (Memref.whole Cert.KernelIdeal.cc0_scratch2 : Memref Cert.KernelIdeal.sig Kind.scVector Space.vmem Cert.KernelIdeal.S32768 EltTy.f32)
local notation "bS" => (Memref.whole Cert.KernelIdeal.cc0_scratch3 : Memref Cert.KernelIdeal.sig Kind.scVector Space.vmem Cert.KernelIdeal.S32768 EltTy.f32)

/-- The places of a trip of the first chunk's loop. -/
def offs0 (t1 : Fin k0_t1_loop.trips) (t : Fin k0_t2_loop.trips) : Offs (4 * t1.val) t.val where
  x r := k0_off3 t1 t (BitVec.ofNat 32 r.val)
  we j u := (![k0_off4, k0_off5, k0_off6, k0_off7, k0_off8, k0_off9, k0_off10, k0_off11] : Fin 8 → _) j t (BitVec.ofNat 32 u.val)
  wo j u := (![k0_off12, k0_off13, k0_off14, k0_off15, k0_off16, k0_off17, k0_off18, k0_off19] : Fin 8 → _) j t (BitVec.ofNat 32 u.val)
  st r u j := k0_off20 t (BitVec.ofNat 32 (128 * r.val)) (BitVec.ofNat 32 u.val) (BitVec.ofNat 32 (16 * j.val))
  x_inb := k0_off3_inb t1 t
  we_inb j := match j with
    | 0 => k0_off4_inb t | 1 => k0_off5_inb t | 2 => k0_off6_inb t | 3 => k0_off7_inb t
    | 4 => k0_off8_inb t | 5 => k0_off9_inb t | 6 => k0_off10_inb t | 7 => k0_off11_inb t
  wo_inb j := match j with
    | 0 => k0_off12_inb t | 1 => k0_off13_inb t | 2 => k0_off14_inb t | 3 => k0_off15_inb t
    | 4 => k0_off16_inb t | 5 => k0_off17_inb t | 6 => k0_off18_inb t | 7 => k0_off19_inb t
  st_inb := k0_off20_inb t
  x_eq r := k0_off3_eq t1 t r
  we_eq j := match j with
    | 0 => k0_off4_eq t | 1 => k0_off5_eq t | 2 => k0_off6_eq t | 3 => k0_off7_eq t
    | 4 => k0_off8_eq t | 5 => k0_off9_eq t | 6 => k0_off10_eq t | 7 => k0_off11_eq t
  wo_eq j := match j with
    | 0 => k0_off12_eq t | 1 => k0_off13_eq t | 2 => k0_off14_eq t | 3 => k0_off15_eq t
    | 4 => k0_off16_eq t | 5 => k0_off17_eq t | 6 => k0_off18_eq t | 7 => k0_off19_eq t
  st_eq := k0_off20_eq t

/-- The places of a trip of the second chunk's loop. -/
def offs1 (t1 : Fin k0_t1_loop.trips) (t : Fin k0_t3_loop.trips) : Offs (4 * t1.val + 2) t.val where
  x r := k0_off23 t1 t (BitVec.ofNat 32 r.val)
  we j u := (![k0_off24, k0_off25, k0_off26, k0_off27, k0_off28, k0_off29, k0_off30, k0_off31] : Fin 8 → _) j t (BitVec.ofNat 32 u.val)
  wo j u := (![k0_off32, k0_off33, k0_off34, k0_off35, k0_off36, k0_off37, k0_off38, k0_off39] : Fin 8 → _) j t (BitVec.ofNat 32 u.val)
  st r u j := k0_off40 t (BitVec.ofNat 32 (128 * r.val)) (BitVec.ofNat 32 u.val) (BitVec.ofNat 32 (16 * j.val))
  x_inb := k0_off23_inb t1 t
  we_inb j := match j with
    | 0 => k0_off24_inb t | 1 => k0_off25_inb t | 2 => k0_off26_inb t | 3 => k0_off27_inb t
    | 4 => k0_off28_inb t | 5 => k0_off29_inb t | 6 => k0_off30_inb t | 7 => k0_off31_inb t
  wo_inb j := match j with
    | 0 => k0_off32_inb t | 1 => k0_off33_inb t | 2 => k0_off34_inb t | 3 => k0_off35_inb t
    | 4 => k0_off36_inb t | 5 => k0_off37_inb t | 6 => k0_off38_inb t | 7 => k0_off39_inb t
  st_inb := k0_off40_inb t
  x_eq r := (k0_off23_eq t1 t r).trans (by rw [Nat.add_right_comm])
  we_eq j := match j with
    | 0 => k0_off24_eq t | 1 => k0_off25_eq t | 2 => k0_off26_eq t | 3 => k0_off27_eq t
    | 4 => k0_off28_eq t | 5 => k0_off29_eq t | 6 => k0_off30_eq t | 7 => k0_off31_eq t
  wo_eq j := match j with
    | 0 => k0_off32_eq t | 1 => k0_off33_eq t | 2 => k0_off34_eq t | 3 => k0_off35_eq t
    | 4 => k0_off36_eq t | 5 => k0_off37_eq t | 6 => k0_off38_eq t | 7 => k0_off39_eq t
  st_eq := k0_off40_eq t

set_option maxHeartbeats 4000000 in
theorem trip0 (d : Dev nD) (L : grid0.Coords) (t1 : Fin k0_t1_loop.trips) (t : Fin k0_t2_loop.trips) (v13 : BitVec 32)
    (fw : S256x128.Idx → F .f32) (fx : S128x256.Idx → F .f32) (fa : S32768.Idx → F .f32) (hfa : Done fx fw (4 * t1.val) t.val fa) :
    iprop(((wS).view.loc (tile d L) ↦{fullShare} fw) ∗ ((xS).view.loc (tile d L) ↦{fullShare} fx) ∗ ((aS).view.loc (tile d L) ↦{fullShare} fa))
      ⊢ (wp frame (wpE (defs₀ (F := F)) 𝒱₀ (tile d L) none) Set.univ
          (k0_t2_body L xW (Memref.isWhole_whole _) wW (Memref.isWhole_whole _) oW (Memref.isWhole_whole _)
            wS (Memref.isWhole_whole _) xS (Memref.isWhole_whole _) aS (Memref.isWhole_whole _) bS (Memref.isWhole_whole _)
            cc0_scratch4 cc0_scratch5 cc0_scoped0 cc0_scoped1 t1 v13 t ())
          fun _ => iprop(((wS).view.loc (tile d L) ↦{fullShare} fw) ∗ ((xS).view.loc (tile d L) ↦{fullShare} fx)
            ∗ ∃ fa' : S32768.Idx → F .f32, ((aS).view.loc (tile d L) ↦{fullShare} fa') ∗ ⌜Done fx fw (4 * t1.val) (t.val + 1) fa'⌝) : sProp 𝕄) := by
  have e1 : t1.val < 32 := t1.isLt
  have e2 : t.val < 16 := t.isLt
  unfold k0_t2_body
  iintro ⟨Hw, Hx, Ha⟩
  sl_exec
  sl_step
  isplitl [Hw]; · iexact Hw
  isplitl [Hx]; · iexact Hx
  iexists (aS).view.writes (Elt F) fa ((offs0 t1 t).pieces fx fw)
  isplitl [Ha]; · iexact Ha
  ipureintro
  exact (offs0 t1 t).writes_done e2 (by omega) fx fw (aS).view fa hfa

set_option maxHeartbeats 4000000 in
theorem trip1 (d : Dev nD) (L : grid0.Coords) (t1 : Fin k0_t1_loop.trips) (t : Fin k0_t3_loop.trips) (v25 : BitVec 32)
    (fw : S256x128.Idx → F .f32) (fx : S128x256.Idx → F .f32) (fa : S32768.Idx → F .f32) (hfa : Done fx fw (4 * t1.val + 2) t.val fa) :
    iprop(((wS).view.loc (tile d L) ↦{fullShare} fw) ∗ ((xS).view.loc (tile d L) ↦{fullShare} fx) ∗ ((bS).view.loc (tile d L) ↦{fullShare} fa))
      ⊢ (wp frame (wpE (defs₀ (F := F)) 𝒱₀ (tile d L) none) Set.univ
          (k0_t3_body L xW (Memref.isWhole_whole _) wW (Memref.isWhole_whole _) oW (Memref.isWhole_whole _)
            wS (Memref.isWhole_whole _) xS (Memref.isWhole_whole _) aS (Memref.isWhole_whole _) bS (Memref.isWhole_whole _)
            cc0_scratch4 cc0_scratch5 cc0_scoped0 cc0_scoped1 t1 v25 t ())
          fun _ => iprop(((wS).view.loc (tile d L) ↦{fullShare} fw) ∗ ((xS).view.loc (tile d L) ↦{fullShare} fx)
            ∗ ∃ fa' : S32768.Idx → F .f32, ((bS).view.loc (tile d L) ↦{fullShare} fa') ∗ ⌜Done fx fw (4 * t1.val + 2) (t.val + 1) fa'⌝) : sProp 𝕄) := by
  have e1 : t1.val < 32 := t1.isLt
  have e2 : t.val < 16 := t.isLt
  unfold k0_t3_body
  iintro ⟨Hw, Hx, Ha⟩
  sl_exec
  sl_step
  isplitl [Hw]; · iexact Hw
  isplitl [Hx]; · iexact Hx
  iexists (bS).view.writes (Elt F) fa ((offs1 t1 t).pieces fx fw)
  isplitl [Ha]; · iexact Ha
  ipureintro
  exact (offs1 t1 t).writes_done e2 (by omega) fx fw (bS).view fa hfa

end Cert.Proof.PairSum
-- ==== Proof.Fill.lean ====
/-
  A chunk's inner loop, from its trips: sixteen trips of eight pairs fill the chunk's two rows.
-/
module

public import proofs.«01_k».proof.Proof.Trip

@[expose] public section

noncomputable section

namespace Cert.Proof.PairSum
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ
local notation "xW" => (Memref.whole Cert.KernelIdeal.main_arg0_scv : Memref Cert.KernelIdeal.sig Kind.scVector Space.hbm Cert.KernelIdeal.S4096x256 EltTy.f32)
local notation "wW" => (Memref.whole Cert.KernelIdeal.main_arg1_scv : Memref Cert.KernelIdeal.sig Kind.scVector Space.hbm Cert.KernelIdeal.S256x128 EltTy.f32)
local notation "oW" => (Memref.whole Cert.KernelIdeal.main_v0_scv : Memref Cert.KernelIdeal.sig Kind.scVector Space.hbm Cert.KernelIdeal.S67108864 EltTy.f32)
local notation "wS" => (Memref.whole Cert.KernelIdeal.cc0_scratch0 : Memref Cert.KernelIdeal.sig Kind.scVector Space.vmem Cert.KernelIdeal.S256x128 EltTy.f32)
local notation "xS" => (Memref.whole Cert.KernelIdeal.cc0_scratch1 : Memref Cert.KernelIdeal.sig Kind.scVector Space.vmem Cert.KernelIdeal.S128x256 EltTy.f32)
local notation "aS" => (Memref.whole Cert.KernelIdeal.cc0_scratch2 : Memref Cert.KernelIdeal.sig Kind.scVector Space.vmem Cert.KernelIdeal.S32768 EltTy.f32)
local notation "bS" => (Memref.whole Cert.KernelIdeal.cc0_scratch3 : Memref Cert.KernelIdeal.sig Kind.scVector Space.vmem Cert.KernelIdeal.S32768 EltTy.f32)

/-- The loop's invariant: the weights and the rows held, and the chunk's first `8 k` pairs done. -/
def inv0 (d : Dev nD) (L : grid0.Coords) (t1 : Fin k0_t1_loop.trips) (fw : S256x128.Idx → F .f32) (fx : S128x256.Idx → F .f32) (k : ℕ) (_ : Unit) : sProp 𝕄 :=
  iprop(((wS).view.loc (tile d L) ↦{fullShare} fw) ∗ ((xS).view.loc (tile d L) ↦{fullShare} fx)
    ∗ ∃ f : S32768.Idx → F .f32, ((aS).view.loc (tile d L) ↦{fullShare} f) ∗ ⌜Done fx fw (4 * t1.val) k f⌝)

set_option maxRecDepth 16384 in
/-- The first chunk's loop fills it with the value of its two rows. -/
theorem fill0 (d : Dev nD) (L : grid0.Coords) (t1 : Fin k0_t1_loop.trips) (v13 : BitVec 32) (fw : S256x128.Idx → F .f32) (fx : S128x256.Idx → F .f32) :
    iprop(((wS).view.loc (tile d L) ↦{fullShare} fw) ∗ ((xS).view.loc (tile d L) ↦{fullShare} fx)
        ∗ ∃ f : S32768.Idx → F .f32, (aS).view.loc (tile d L) ↦{fullShare} f)
      ⊢ (wp frame (wpE (defs₀ (F := F)) 𝒱₀ (tile d L) none) Set.univ
          (Scf.Loop.for k0_t2_loop k0_t2_ok ⟨⟩ (k0_t2_body L xW (Memref.isWhole_whole _) wW (Memref.isWhole_whole _) oW (Memref.isWhole_whole _)
            wS (Memref.isWhole_whole _) xS (Memref.isWhole_whole _) aS (Memref.isWhole_whole _) bS (Memref.isWhole_whole _)
            cc0_scratch4 cc0_scratch5 cc0_scoped0 cc0_scoped1 t1 v13))
          fun _ => iprop(((wS).view.loc (tile d L) ↦{fullShare} fw) ∗ ((xS).view.loc (tile d L) ↦{fullShare} fx)
            ∗ ((aS).view.loc (tile d L) ↦{fullShare} fun y : S32768.Idx => blockVal fx fw (4 * t1.val) (y 0).val)) : sProp 𝕄) := by
  iintro ⟨Hw, Hx, %f, Ha⟩
  sl_for (inv0 d L t1 fw fx) $$ [Hw Hx Ha]
  case region =>
    intro k _
    unfold inv0
    iintro ⟨Hw, Hx, %f, Ha, %hf⟩
    iapply (trip0 d L t1 k v13 fw fx f hf) $$ [Hw Hx Ha]
    isplitl [Hw]; · iexact Hw
    isplitl [Hx]; · iexact Hx
    iexact Ha
  unfold inv0
  isplitl [Hw Hx Ha]
  · isplitl [Hw]; · iexact Hw
    isplitl [Hx]; · iexact Hx
    iexists f
    isplitl [Ha]; · iexact Ha
    ipureintro
    exact Done.zero fx fw _ f
  iintro %_ ⟨Hw, Hx, %g, Ha, %hg⟩
  isplitl [Hw]; · iexact Hw
  isplitl [Hx]; · iexact Hx
  rw [← Done.all (f := g) hg]
  iexact Ha

/-- The loop's invariant: the weights and the rows held, and the chunk's first `8 k` pairs done. -/
def inv1 (d : Dev nD) (L : grid0.Coords) (t1 : Fin k0_t1_loop.trips) (fw : S256x128.Idx → F .f32) (fx : S128x256.Idx → F .f32) (k : ℕ) (_ : Unit) : sProp 𝕄 :=
  iprop(((wS).view.loc (tile d L) ↦{fullShare} fw) ∗ ((xS).view.loc (tile d L) ↦{fullShare} fx)
    ∗ ∃ f : S32768.Idx → F .f32, ((bS).view.loc (tile d L) ↦{fullShare} f) ∗ ⌜Done fx fw (4 * t1.val + 2) k f⌝)

set_option maxRecDepth 16384 in
/-- The second chunk's loop fills it with the value of its two rows. -/
theorem fill1 (d : Dev nD) (L : grid0.Coords) (t1 : Fin k0_t1_loop.trips) (v25 : BitVec 32) (fw : S256x128.Idx → F .f32) (fx : S128x256.Idx → F .f32) :
    iprop(((wS).view.loc (tile d L) ↦{fullShare} fw) ∗ ((xS).view.loc (tile d L) ↦{fullShare} fx)
        ∗ ∃ f : S32768.Idx → F .f32, (bS).view.loc (tile d L) ↦{fullShare} f)
      ⊢ (wp frame (wpE (defs₀ (F := F)) 𝒱₀ (tile d L) none) Set.univ
          (Scf.Loop.for k0_t3_loop k0_t3_ok ⟨⟩ (k0_t3_body L xW (Memref.isWhole_whole _) wW (Memref.isWhole_whole _) oW (Memref.isWhole_whole _)
            wS (Memref.isWhole_whole _) xS (Memref.isWhole_whole _) aS (Memref.isWhole_whole _) bS (Memref.isWhole_whole _)
            cc0_scratch4 cc0_scratch5 cc0_scoped0 cc0_scoped1 t1 v25))
          fun _ => iprop(((wS).view.loc (tile d L) ↦{fullShare} fw) ∗ ((xS).view.loc (tile d L) ↦{fullShare} fx)
            ∗ ((bS).view.loc (tile d L) ↦{fullShare} fun y : S32768.Idx => blockVal fx fw (4 * t1.val + 2) (y 0).val)) : sProp 𝕄) := by
  iintro ⟨Hw, Hx, %f, Ha⟩
  sl_for (inv1 d L t1 fw fx) $$ [Hw Hx Ha]
  case region =>
    intro k _
    unfold inv1
    iintro ⟨Hw, Hx, %f, Ha, %hf⟩
    iapply (trip1 d L t1 k v25 fw fx f hf) $$ [Hw Hx Ha]
    isplitl [Hw]; · iexact Hw
    isplitl [Hx]; · iexact Hx
    iexact Ha
  unfold inv1
  isplitl [Hw Hx Ha]
  · isplitl [Hw]; · iexact Hw
    isplitl [Hx]; · iexact Hx
    iexists f
    isplitl [Ha]; · iexact Ha
    ipureintro
    exact Done.zero fx fw _ f
  iintro %_ ⟨Hw, Hx, %g, Ha, %hg⟩
  isplitl [Hw]; · iexact Hw
  isplitl [Hx]; · iexact Hx
  rw [← Done.all (f := g) hg]
  iexact Ha

end Cert.Proof.PairSum
-- ==== Proof.Block.lean ====
/-
  Blocks of the flat result array: the words `a ≤ n < b`, held as a piece of the array by the tile that fills them. A chunk's slice is such a
  block, adjacent blocks join, and a transfer of a finished chunk leaves the result's value on its block.
-/
module

public import proofs.«01_k».proof.Proof.Value

@[expose] public section

noncomputable section

namespace Cert.Proof.PairSum

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ
local notation "xW" => (Memref.whole Cert.KernelIdeal.main_arg0_scv : Memref Cert.KernelIdeal.sig Kind.scVector Space.hbm Cert.KernelIdeal.S4096x256 EltTy.f32)
local notation "oW" => (Memref.whole Cert.KernelIdeal.main_v0_scv : Memref Cert.KernelIdeal.sig Kind.scVector Space.hbm Cert.KernelIdeal.S67108864 EltTy.f32)

/-! ## The sets -/

/-- The words `a ≤ n < b`. -/
def blk (a b : ℕ) : Finset S67108864.Idx := Finset.univ.filter fun y => a ≤ (y 0).val ∧ (y 0).val < b

theorem mem_blk {a b : ℕ} {y : S67108864.Idx} : y ∈ blk a b ↔ a ≤ (y 0).val ∧ (y 0).val < b := by
  unfold blk; simp only [Finset.mem_filter, Finset.mem_univ, true_and]

theorem blk_self (a : ℕ) : blk a a = ∅ := Finset.eq_empty_of_forall_notMem fun y h => by have := mem_blk.1 h; omega

theorem blk_disjoint {a b c e : ℕ} (h : b ≤ c) : Disjoint (blk a b) (blk c e) :=
  Finset.disjoint_left.2 fun y h1 h2 => by have := mem_blk.1 h1; have := mem_blk.1 h2; omega

theorem blk_union {a b c : ℕ} (h1 : a ≤ b) (h2 : b ≤ c) : blk a b ∪ blk b c = blk a c := by
  ext y
  simp only [Finset.mem_union, mem_blk]
  omega

theorem blk_univ : blk 0 67108864 = Finset.univ :=
  Finset.eq_univ_of_forall fun y => mem_blk.2 ⟨Nat.zero_le _, (y 0).isLt⟩

/-- The elements of a chunk's slice. -/
theorem set_slice_out {off : Fin 1 → ℕ} (inb : ∀ a, off a + S32768.size a ≤ S67108864.size a) {a : ℕ} (h : off = ![a]) :
    ((oW).slice (Rect.unit (s := S67108864) off S32768.size inb) (fun _ => rfl)).view.set = blk a (a + 32768) := by
  subst h
  refine (View.set_slice_whole (main_v0_scv : Ref sig .scVector) _).trans ?_
  ext y
  refine (Rect.mem_set_unit (s := S67108864) (inb := inb)).trans ?_
  rw [mem_blk]
  constructor
  · intro h; exact h 0
  · intro h k
    obtain rfl : k = 0 := Subsingleton.elim _ _
    exact h

/-! ## Holding a block -/

theorem pts_blk (d : Dev nD) (q : PosShare TreeShare) (f : Buf (Elt F) (oLoc d)) {a b c : ℕ} (h1 : a ≤ b) (h2 : b ≤ c) :
    (oLoc d ↦[blk a c]{q} f : sProp 𝕄) = iprop((oLoc d ↦[blk a b]{q} f) ∗ oLoc d ↦[blk b c]{q} f) := by
  have e := pointsTo_union (ℓ := oLoc d) (Ix := HIx 1) (Val := Elt F) (Name := ℕ) (U := UU) (Lvl := ℕ) (q := q) (f := f)
    (I := blk a b) (J := blk b c) (blk_disjoint (le_refl b))
  rw [blk_union h1 h2] at e
  exact BI.Entails.antisymm e.1 e.2

/-! ## The rows of a tile -/

/-- The first row of a tile's rows. -/
def row0 (L : grid0.Coords) : ℕ := 256 * (L 1).val + 128 * (L 0).val

theorem row0_le (L : grid0.Coords) : row0 L + 128 ≤ 4096 := by
  have h0 : (L 0).val < 2 := (L 0).isLt
  have h1 : (L 1).val < 16 := (L 1).isLt
  unfold row0; omega

/-- The tile's rows of `x`, as its copy reads them. -/
def rowsOf (x : S4096x256.Idx → F .f32) (L : grid0.Coords) : S128x256.Idx → F .f32 :=
  ((xW).slice (Rect.unit (s := S4096x256) (k0_off1 L) S128x256.size (k0_off1_inb L)) (fun _ => rfl)).view.read (Elt F) x

theorem at2_rowsOf (x : S4096x256.Idx → F .f32) (L : grid0.Coords) {a b : ℕ} (ha : a < 128) (hb : b < 256) :
    at2 (rowsOf x L) a b = at2 x (row0 L + a) b := by
  unfold at2 rowsOf
  refine at2_of x _ ?_ ?_
  · show k0_off1 L 0 + 1 * (a % 128) = row0 L + a
    rw [k0_off1_eq, Nat.mod_eq_of_lt ha, Nat.one_mul]; rfl
  · show k0_off1 L 1 + 1 * (b % 256) = b
    rw [k0_off1_eq, Nat.mod_eq_of_lt hb, Nat.one_mul]
    exact Nat.zero_add b

variable [FloatOps F]

/-- A chunk's word is the result's word at the chunk's place. -/
theorem blockVal_rowsOf (x : S4096x256.Idx → F .f32) (w : S256x128.Idx → F .f32) (L : grid0.Coords) {rb n : ℕ} (hrb : rb + 2 ≤ 128) (hn : n < 32768) :
    blockVal (rowsOf x L) w rb n = blockVal x w 0 (16384 * (row0 L + rb) + n) := by
  unfold blockVal pairDot
  have e1 : (16384 * (row0 L + rb) + n) / 16384 = row0 L + rb + n / 16384 := by omega
  have e2 : (16384 * (row0 L + rb) + n) / 128 % 128 = n / 128 % 128 := by omega
  have e3 : (16384 * (row0 L + rb) + n) % 128 = n % 128 := by omega
  rw [e1, e2, e3, at2_rowsOf x L (by omega) (by omega), at2_rowsOf x L (by omega) (by omega), Nat.zero_add, Nat.add_assoc (row0 L)]

/-- What a chunk's transfer leaves on its block. -/
theorem write_chunk (x : S4096x256.Idx → F .f32) (w : S256x128.Idx → F .f32) (L : grid0.Coords) {rb a : ℕ} (hrb : rb + 2 ≤ 128)
    (ha : a = 16384 * (row0 L + rb)) {off : Fin 1 → ℕ} (inb : ∀ a, off a + S32768.size a ≤ S67108864.size a) (h : off = ![a])
    (f : S67108864.Idx → F .f32) (y : S67108864.Idx) (hy : y ∈ blk a (a + 32768)) :
    ((oW).slice (Rect.unit (s := S67108864) off S32768.size inb) (fun _ => rfl)).view.write (Elt F) f
      (fun z : S32768.Idx => blockVal (rowsOf x L) w rb (z 0).val) Finset.univ y = outVal x w y := by
  subst h ha
  obtain ⟨h1, h2⟩ := mem_blk.1 hy
  have hz : ((oW).slice (Rect.unit (s := S67108864) ![16384 * (row0 L + rb)] S32768.size inb) (fun _ => rfl)).view.emb
      (ix1 ⟨(y 0).val - 16384 * (row0 L + rb), by omega⟩) = y := by
    refine funext fun (k : Fin 1) => ?_
    obtain rfl : k = 0 := Subsingleton.elim _ _
    apply Fin.ext
    show 16384 * (row0 L + rb) + 1 * ((y 0).val - 16384 * (row0 L + rb)) = (y 0).val
    omega
  conv_lhs => rw [← hz]
  refine (View.write_emb_of_mem _ _ (Finset.mem_univ _)).trans ?_
  show blockVal (rowsOf x L) w rb ((y 0).val - 16384 * (row0 L + rb)) = blockVal x w 0 (y 0).val
  rw [blockVal_rowsOf x w L hrb (by omega)]
  congr 1
  omega

end Cert.Proof.PairSum
-- ==== Proof.Flight.lean ====
/-
  A chunk's transfer to the result: its start, the guarded wait that precedes the buffer's next use, and the blocks those waits bring back.
-/
module

public import proofs.«01_k».proof.Proof.Fill
public import proofs.«01_k».proof.Proof.Block

@[expose] public section

noncomputable section

namespace Cert.Proof.PairSum
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ
local notation "xW" => (Memref.whole Cert.KernelIdeal.main_arg0_scv : Memref Cert.KernelIdeal.sig Kind.scVector Space.hbm Cert.KernelIdeal.S4096x256 EltTy.f32)
local notation "wW" => (Memref.whole Cert.KernelIdeal.main_arg1_scv : Memref Cert.KernelIdeal.sig Kind.scVector Space.hbm Cert.KernelIdeal.S256x128 EltTy.f32)
local notation "oW" => (Memref.whole Cert.KernelIdeal.main_v0_scv : Memref Cert.KernelIdeal.sig Kind.scVector Space.hbm Cert.KernelIdeal.S67108864 EltTy.f32)
local notation "wS" => (Memref.whole Cert.KernelIdeal.cc0_scratch0 : Memref Cert.KernelIdeal.sig Kind.scVector Space.vmem Cert.KernelIdeal.S256x128 EltTy.f32)
local notation "xS" => (Memref.whole Cert.KernelIdeal.cc0_scratch1 : Memref Cert.KernelIdeal.sig Kind.scVector Space.vmem Cert.KernelIdeal.S128x256 EltTy.f32)
local notation "aS" => (Memref.whole Cert.KernelIdeal.cc0_scratch2 : Memref Cert.KernelIdeal.sig Kind.scVector Space.vmem Cert.KernelIdeal.S32768 EltTy.f32)
local notation "bS" => (Memref.whole Cert.KernelIdeal.cc0_scratch3 : Memref Cert.KernelIdeal.sig Kind.scVector Space.vmem Cert.KernelIdeal.S32768 EltTy.f32)

/-! ## A chunk in flight -/

/-- What every chunk's transfer credits its semaphore. -/
def chunkCredit : ℕ :=
  ((oW).slice (Rect.unit (s := S67108864) ![0] S32768.size (by decide)) (fun _ => rfl)).view.dmaCredit

omit [FloatOps F] in
theorem credit_eq {off : Fin 1 → ℕ} (inb : ∀ a, off a + S32768.size a ≤ S67108864.size a) :
    ((oW).slice (Rect.unit (s := S67108864) off S32768.size inb) (fun _ => rfl)).view.dmaCredit = chunkCredit := rfl

section Chunk

variable (d : Dev nD) (L : grid0.Coords) (x : S4096x256.Idx → F .f32) (w : S256x128.Idx → F .f32)

/-- A chunk's transfer in flight: it will deliver the result's block at the result's value, and the buffer back. -/
def Flying (B : Memref sig .scVector .vmem S32768 .f32) (sem : DmaSem sig) (a : ℕ) : sProp 𝕄 :=
  Transfers.Flight (countersEmb (U := UU)) (tile d L) (.dma sem) (default : HIx 1) chunkCredit
    iprop((oLoc d ↦[blk a (a + 32768)]{fullShare} outVal x w) ∗ ∃ f, B.view.loc (tile d L) ↦{fullShare} f)

/-- A chunk's buffer before trip `p`: free before the first, in flight to its block before every later one. -/
def Half (B : Memref sig .scVector .vmem S32768 .f32) (sem : DmaSem sig) (p a : ℕ) : sProp 𝕄 :=
  if p = 0 then iprop((∃ f, B.view.loc (tile d L) ↦{fullShare} f) ∗ semVal (tile d L, SemLoc.dma sem) 0) else Flying d L x w B sem a

/-- The block a wait brings back: none before the first trip. -/
def Back (p a : ℕ) : sProp 𝕄 := if p = 0 then iprop(emp) else oLoc d ↦[blk a (a + 32768)]{fullShare} outVal x w

/-- The chunk's transfer starts: its buffer, finished, and its block go in flight. -/
theorem issue (B : Memref sig .scVector .vmem S32768 .f32) (hB : B.view.set = Finset.univ) (sem : DmaSem sig) {off : Fin 1 → ℕ}
    (inb : ∀ a, off a + S32768.size a ≤ S67108864.size a) {a rb : ℕ} (h : off = ![a]) (hrb : rb + 2 ≤ 128) (ha : a = 16384 * (row0 L + rb))
    (fB : Buf (Elt F) (B.view.loc (tile d L))) (hfB : B.view.read (Elt F) fB = fun z : S32768.Idx => blockVal (rowsOf x L) w rb (z 0).val)
    (fo : Buf (Elt F) (oLoc d)) (hb : B.view.WordExact) :
    iprop((B.view.loc (tile d L) ↦{fullShare} fB) ∗ (oLoc d ↦[blk a (a + 32768)]{fullShare} fo) ∗ semVal (tile d L, SemLoc.dma sem) 0)
      ⊢ (wp frame (wpE (defs₀ (F := F)) 𝒱₀ (tile d L) none) Set.univ
          (Prog.lift (.enqueueDma B (.here ((oW).slice (Rect.unit (s := S67108864) off S32768.size inb) (fun _ => rfl))) (.dma sem) hb (View.wordExact_bits rfl) ⟨Or.inl rfl, trivial⟩))
          fun _ => Flying d L x w B sem a : sProp 𝕄) := by
  have hs := set_slice_out inb h
  iintro ⟨Hb, Ho, Hv⟩
  unfold Prog.lift
  iapply (Transfers.wp_dmaLocal (countersEmb (U := UU)) 𝒱₀ (tile d L) none (q := fullShare) (fs := fB) (fd := fo)
      (dst := (oW).slice (Rect.unit (s := S67108864) off S32768.size inb) (fun _ => rfl))
      (Sd := ((oW).slice (Rect.unit (s := S67108864) off S32768.size inb) (fun _ => rfl)).view.set)
      (default : HIx 1) chunkCredit (by exact credit_eq inb) (View.amount_pos _ (.dma sem) (show 0 < S32768.numel by decide)) (Finset.Subset.refl _)) $$ [Hb Ho Hv]
  · isplitl [Hb]
    · rw [hB]; iexact Hb
    isplitl [Ho]
    · rw [hs]; iexact Ho
    iexact Hv
  iintro Hf
  iapply (le_wp_ret _ _ _ _ _)
  unfold Flying
  iapply (Transfers.Flight_mono (countersEmb (U := UU)) (tile d L) ?_) $$ Hf
  iintro ⟨Ho, Hb⟩
  isplitl [Ho]
  · rw [hs]
    ihave Ho' := (Entails.of_eq (pointsTo_congr (Ix := HIx 1) (Name := ℕ) (U := UU) (Lvl := ℕ) (ℓ := oLoc d) (q := fullShare) (I := blk a (a + 32768))
      (g := outVal x w) (fun y hy => by
        refine Eq.trans ?_ (write_chunk x w L hrb ha inb h fo y hy)
        rw [← hfB]))) $$ Ho
    iexact Ho'
  · rw [hB]; iexists _; iexact Hb

/-- The wait before a chunk is filled again: made from the second trip on. -/
theorem settle (B : Memref sig .scVector .vmem S32768 .f32) (sem : DmaSem sig) (p a : ℕ) {cond : BitVec 1} (hc : cond = 1#1 ↔ p ≠ 0)
    {off : Fin 1 → ℕ} {inb : cond = 1#1 → ∀ a, off a + S32768.size a ≤ S67108864.size a} (hb : B.view.WordExact) {α : Type}
    (O : CellTallies nD τ sig (HIx 1)) (W : Waits sig (HIx 1))
    (R : Prog (TpuEff nD τ sig (Elt F) Λ₀ (.scVector (cV L) (jV L))) α) (Q : α → sProp 𝕄) :
    iprop(Half d L x w B sem p a ∗ Transfers.MayWaits (tile d L) (default : HIx 1) O
        ∗ ∃ W', ⌜∀ q ∈ W', q ∈ W ∨ q.2 = none⌝ ∗ owes (tile d L) O W')
      ⊢ iprop((iprop((∃ f, B.view.loc (tile d L) ↦{fullShare} f) ∗ semVal (tile d L, SemLoc.dma sem) 0 ∗ Back d x w p a
            ∗ ∃ W', ⌜∀ q ∈ W', q ∈ W ∨ q.2 = none⌝ ∗ owes (tile d L) O W')
          -∗ wp frame (wpE (defs₀ (F := F)) 𝒱₀ (tile d L) none) Set.univ R Q)
        -∗ wp frame (wpE (defs₀ (F := F)) 𝒱₀ (tile d L) none) Set.univ
          (if h : cond = 1#1 then Prog.lift (.waitDma2 sem B ((oW).slice (Rect.unit (s := S67108864) off S32768.size (inb h)) (fun _ => rfl)) hb (View.wordExact_bits rfl)) >>= fun _ => R else R) Q) := by
  unfold Half Back
  by_cases h0 : p = 0
  · have hn : ¬cond = 1#1 := fun h => (hc.1 h) h0
    rw [if_pos h0, if_pos h0, dif_neg hn]
    iintro ⟨⟨Hb, Hv⟩, -, HO⟩ HR
    iapply HR
    isplitl [Hb]; · iexact Hb
    isplitl [Hv]; · iexact Hv
    isplitr; · iempintro
    iexact HO
  · have hp : cond = 1#1 := hc.2 h0
    rw [if_neg h0, if_neg h0, dif_pos hp, wp_bind]
    unfold Flying Prog.lift
    iintro ⟨Hf, Hmw, %W', %hW', HO⟩ HR
    iapply (Transfers.wp_waitLocalO (countersEmb (U := UU)) 𝒱₀ (tile d L) none (default : HIx 1) (credit_eq (inb hp))) $$ [Hf HO Hmw]
    · isplitl [Hf]; · iexact Hf
      isplitl [HO]; · iexact HO
      iapply (Transfers.MayWaits.elim (SemLoc.dma sem)) $$ Hmw
    iintro ⟨⟨Ho, Hb⟩, Hv, HO⟩
    iapply (le_wp_ret _ _ _ _ _)
    iapply HR
    isplitl [Hb]; · iexact Hb
    isplitl [Hv]; · iexact Hv
    isplitl [Ho]; · iexact Ho
    iexists (insert (SemLoc.dma sem, (default : HIx 1)) W')
    isplitr
    · ipureintro
      intro q hq
      rcases Finset.mem_insert.mp hq with hq | hq
      · exact .inr (hq ▸ rfl)
      · exact hW' q hq
    · iexact HO

/-- The blocks done before trip `p`, and the two that its waits bring back. -/
theorem back_join (b p : ℕ) :
    iprop((oLoc d ↦[blk b (b + 65536 * (p - 1))]{fullShare} outVal x w) ∗ Back d x w p (b + 65536 * (p - 1)) ∗ Back d x w p (b + 65536 * (p - 1) + 32768))
      ⊢ (oLoc d ↦[blk b (b + 65536 * p)]{fullShare} outVal x w : sProp 𝕄) := by
  unfold Back
  by_cases h0 : p = 0
  · subst h0
    rw [if_pos rfl, if_pos rfl]
    iintro ⟨H, -, -⟩
    iexact H
  · rw [if_neg h0, if_neg h0, pts_blk d fullShare (outVal x w) (show b ≤ b + 65536 * (p - 1) by omega) (show b + 65536 * (p - 1) ≤ b + 65536 * p by omega),
      pts_blk d fullShare (outVal x w) (show b + 65536 * (p - 1) ≤ b + 65536 * (p - 1) + 32768 by omega) (show b + 65536 * (p - 1) + 32768 ≤ b + 65536 * p by omega),
      show b + 65536 * p = b + 65536 * (p - 1) + 32768 + 32768 by omega]

end Chunk

end Cert.Proof.PairSum
-- ==== Proof.Loop.lean ====
/-
  The tile's loop: each trip waits for the previous use of each chunk's buffer, fills it, and starts its transfer to the result.
-/
module

public import proofs.«01_k».proof.Proof.Flight

@[expose] public section

noncomputable section

namespace Cert.Proof.PairSum
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ
local notation "xW" => (Memref.whole Cert.KernelIdeal.main_arg0_scv : Memref Cert.KernelIdeal.sig Kind.scVector Space.hbm Cert.KernelIdeal.S4096x256 EltTy.f32)
local notation "wW" => (Memref.whole Cert.KernelIdeal.main_arg1_scv : Memref Cert.KernelIdeal.sig Kind.scVector Space.hbm Cert.KernelIdeal.S256x128 EltTy.f32)
local notation "oW" => (Memref.whole Cert.KernelIdeal.main_v0_scv : Memref Cert.KernelIdeal.sig Kind.scVector Space.hbm Cert.KernelIdeal.S67108864 EltTy.f32)
local notation "wS" => (Memref.whole Cert.KernelIdeal.cc0_scratch0 : Memref Cert.KernelIdeal.sig Kind.scVector Space.vmem Cert.KernelIdeal.S256x128 EltTy.f32)
local notation "xS" => (Memref.whole Cert.KernelIdeal.cc0_scratch1 : Memref Cert.KernelIdeal.sig Kind.scVector Space.vmem Cert.KernelIdeal.S128x256 EltTy.f32)
local notation "aS" => (Memref.whole Cert.KernelIdeal.cc0_scratch2 : Memref Cert.KernelIdeal.sig Kind.scVector Space.vmem Cert.KernelIdeal.S32768 EltTy.f32)
local notation "bS" => (Memref.whole Cert.KernelIdeal.cc0_scratch3 : Memref Cert.KernelIdeal.sig Kind.scVector Space.vmem Cert.KernelIdeal.S32768 EltTy.f32)

/-! ## The tile's loop over its row pairs -/

/-- The first word of the result's part that the tile writes. -/
abbrev base (L : grid0.Coords) : ℕ := 16384 * row0 L

theorem cond1_iff : ∀ t : Fin k0_t1_loop.trips, k0_cond1 t = 1#1 ↔ t.val ≠ 0 := by decide +kernel
theorem cond2_iff : ∀ t : Fin k0_t1_loop.trips, k0_cond2 t = 1#1 ↔ t.val ≠ 0 := by decide +kernel

section Loop

variable (d : Dev nD) (L : grid0.Coords) (x : S4096x256.Idx → F .f32) (w : S256x128.Idx → F .f32) (fo : S67108864.Idx → F .f32)
  (O : CellTallies nD τ sig (HIx 1)) (W : Waits sig (HIx 1))

/-- Before trip `p`: the weights and the tile's rows in scratch, the blocks of the trips before the last one at the
    result's value, the last one's two in flight, the rest of the tile's part as it was. -/
def loopInv (p : ℕ) (_ : PUnit) : sProp 𝕄 :=
  iprop(Transfers.MayWaits (tile d L) (default : HIx 1) O
    ∗ ((wS).view.loc (tile d L) ↦{fullShare} w) ∗ ((xS).view.loc (tile d L) ↦{fullShare} rowsOf x L)
    ∗ Half d L x w aS cc0_scratch4.sem p (base L + 65536 * (p - 1)) ∗ Half d L x w bS cc0_scratch5.sem p (base L + 65536 * (p - 1) + 32768)
    ∗ (oLoc d ↦[blk (base L) (base L + 65536 * (p - 1))]{fullShare} outVal x w)
    ∗ (oLoc d ↦[blk (base L + 65536 * p) (base L + 2097152)]{fullShare} fo)
    ∗ ∃ W', ⌜∀ q ∈ W', q ∈ W ∨ q.2 = none⌝ ∗ owes (tile d L) O W')

set_option maxRecDepth 16384 in
theorem loop_trip (t : Fin k0_t1_loop.trips) :
    loopInv d L x w fo O W t.val ⟨⟩
      ⊢ wp frame (wpE (defs₀ (F := F)) 𝒱₀ (tile d L) none) Set.univ
          (k0_t1_body L xW (Memref.isWhole_whole _) wW (Memref.isWhole_whole _) oW (Memref.isWhole_whole _)
            wS (Memref.isWhole_whole _) xS (Memref.isWhole_whole _) aS (Memref.isWhole_whole _) bS (Memref.isWhole_whole _)
            cc0_scratch4 cc0_scratch5 cc0_scoped0 cc0_scoped1 t ⟨⟩)
          (loopInv d L x w fo O W (t.val + 1)) := by
  have ht : t.val < 32 := t.isLt
  have hr := row0_le L
  unfold loopInv k0_t1_body
  dsimp only
  iintro ⟨#Hmw, Hw, Hx, Ha, Hb, Hdone, Hrest, HO⟩
  -- the wait on the first chunk's previous transfer
  iapply (settle d L x w aS cc0_scratch4.sem t.val (base L + 65536 * (t.val - 1)) (cond1_iff t) (Memref.isWhole_whole _).wordExact O W _ _) $$ [Ha HO]
  · isplitl [Ha]; · iexact Ha
    isplitr; · iexact Hmw
    iexact HO
  iintro ⟨Ha, HsA, HbackA, HO⟩
  rw [wp_bind]
  iapply wp_wand $$ [Hw Hx Ha]
  · iapply (fill0 d L t _ w (rowsOf x L)) $$ [Hw Hx Ha]
    isplitl [Hw]; · iexact Hw
    isplitl [Hx]; · iexact Hx
    iexact Ha
  iintro %_ ⟨Hw, Hx, Ha⟩
  -- the first chunk's transfer
  ihave Hr := (Entails.of_eq (pts_blk (F := F) d fullShare fo (show base L + 65536 * t.val ≤ base L + 65536 * t.val + 32768 by omega)
    (show base L + 65536 * t.val + 32768 ≤ base L + 2097152 by omega))) $$ Hrest
  icases Hr with ⟨HoA, Hrest⟩
  rw [wp_bind]
  iapply wp_wand $$ [Ha HoA HsA]
  · iapply (issue d L x w aS (View.set_whole _) cc0_scratch4.sem (a := base L + 65536 * t.val) (rb := 4 * t.val) _
      ((k0_off21_eq L t 0).trans (by simp [base, row0]; omega)) (by omega) (by unfold base; omega) _ (View.read_whole ..) fo (Memref.isWhole_whole _).wordExact) $$ [Ha HoA HsA]
    isplitl [Ha]; · iexact Ha
    isplitl [HoA]; · iexact HoA
    iexact HsA
  iintro %_ HfA
  -- the wait on the second chunk's previous transfer
  iapply (settle d L x w bS cc0_scratch5.sem t.val (base L + 65536 * (t.val - 1) + 32768) (cond2_iff t) (Memref.isWhole_whole _).wordExact O W _ _) $$ [Hb HO]
  · isplitl [Hb]; · iexact Hb
    isplitr; · iexact Hmw
    iexact HO
  iintro ⟨Hb, HsB, HbackB, HO⟩
  rw [wp_bind]
  iapply wp_wand $$ [Hw Hx Hb]
  · iapply (fill1 d L t _ w (rowsOf x L)) $$ [Hw Hx Hb]
    isplitl [Hw]; · iexact Hw
    isplitl [Hx]; · iexact Hx
    iexact Hb
  iintro %_ ⟨Hw, Hx, Hb⟩
  -- the second chunk's transfer
  ihave Hr := (Entails.of_eq (pts_blk (F := F) d fullShare fo (show base L + 65536 * t.val + 32768 ≤ base L + 65536 * (t.val + 1) by omega)
    (show base L + 65536 * (t.val + 1) ≤ base L + 2097152 by omega))) $$ Hrest
  icases Hr with ⟨HoB, Hrest⟩
  rw [wp_bind]
  iapply wp_wand $$ [Hb HoB HsB]
  · iapply (issue d L x w bS (View.set_whole _) cc0_scratch5.sem (a := base L + 65536 * t.val + 32768) (rb := 4 * t.val + 2) _
      ((k0_off21_eq L t 1).trans (by simp [base, row0]; omega)) (by omega) (by unfold base; omega) _ (View.read_whole ..) fo (Memref.isWhole_whole _).wordExact) $$ [Hb HoB HsB]
    isplitl [Hb]; · iexact Hb
    isplitl [HoB]; · rw [show base L + 65536 * t.val + 32768 + 32768 = base L + 65536 * (t.val + 1) by omega]; iexact HoB
    iexact HsB
  iintro %_ HfB
  iapply (le_wp_ret _ _ _ _ _)
  ihave Hd := (back_join d x w (base L) t.val) $$ [Hdone HbackA HbackB]
  · isplitl [Hdone]; · iexact Hdone
    isplitl [HbackA]; · iexact HbackA
    iexact HbackB
  rw [show t.val + 1 - 1 = t.val by omega]
  isplitr; · iexact Hmw
  isplitl [Hw]; · iexact Hw
  isplitl [Hx]; · iexact Hx
  isplitl [HfA]; · unfold Half; rw [if_neg (Nat.succ_ne_zero _)]; iexact HfA
  isplitl [HfB]; · unfold Half; rw [if_neg (Nat.succ_ne_zero _)]; iexact HfB
  isplitl [Hd]; · iexact Hd
  isplitl [Hrest]; · iexact Hrest
  iexact HO

end Loop

end Cert.Proof.PairSum
-- ==== Proof.Tile.lean ====
/-
  One tile's task, at a symbolic tile: the two copies into scratch, the loop, the last two waits.
-/
module

public import proofs.«01_k».proof.Proof.Loop

@[expose] public section

noncomputable section

namespace Cert.Proof.PairSum
open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ
local notation "xW" => (Memref.whole Cert.KernelIdeal.main_arg0_scv : Memref Cert.KernelIdeal.sig Kind.scVector Space.hbm Cert.KernelIdeal.S4096x256 EltTy.f32)
local notation "wW" => (Memref.whole Cert.KernelIdeal.main_arg1_scv : Memref Cert.KernelIdeal.sig Kind.scVector Space.hbm Cert.KernelIdeal.S256x128 EltTy.f32)
local notation "oW" => (Memref.whole Cert.KernelIdeal.main_v0_scv : Memref Cert.KernelIdeal.sig Kind.scVector Space.hbm Cert.KernelIdeal.S67108864 EltTy.f32)
local notation "wS" => (Memref.whole Cert.KernelIdeal.cc0_scratch0 : Memref Cert.KernelIdeal.sig Kind.scVector Space.vmem Cert.KernelIdeal.S256x128 EltTy.f32)
local notation "xS" => (Memref.whole Cert.KernelIdeal.cc0_scratch1 : Memref Cert.KernelIdeal.sig Kind.scVector Space.vmem Cert.KernelIdeal.S128x256 EltTy.f32)
local notation "aS" => (Memref.whole Cert.KernelIdeal.cc0_scratch2 : Memref Cert.KernelIdeal.sig Kind.scVector Space.vmem Cert.KernelIdeal.S32768 EltTy.f32)
local notation "bS" => (Memref.whole Cert.KernelIdeal.cc0_scratch3 : Memref Cert.KernelIdeal.sig Kind.scVector Space.vmem Cert.KernelIdeal.S32768 EltTy.f32)

/-! ## What a tile owns -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Tile

variable (d : Dev nD) (L : grid0.Coords)

abbrev cell (d : Dev nD) (L : grid0.Coords) (s : DmaSem sig) : GSem nD τ sig := (tile d L, .dma s)

omit [FloatOps F] in
theorem cell_own (s : DmaSem sig) (h : (SemLoc.dma s : SemLoc sig).isScoped .scVector = true) : cell d L s ∈ ownCells (tile d L) :=
  (mem_ownCells (g := cell d L s)).mpr ⟨rfl, h⟩
omit [FloatOps F] in
theorem cell_ne {s s' : DmaSem sig} (h : s ≠ s') : cell d L s ≠ cell d L s' := fun e => h (by simpa [cell] using e)

/-- The cells of the tile other than the four its copies complete on. -/
abbrev restCells : Finset (GSem nD τ sig) :=
  (((((ownCells (tile d L)).erase (cell d L cc0_scoped0.sem)).erase (cell d L cc0_scoped1.sem)).erase (cell d L cc0_scratch4.sem)).erase (cell d L cc0_scratch5.sem))

omit [FloatOps F] in
theorem ownSems0_V :
    (ownSems0 (tile d L) : sProp 𝕄)
      = iprop(semVal (cell d L cc0_scoped0.sem) 0 ∗ semVal (cell d L cc0_scoped1.sem) 0 ∗ semVal (cell d L cc0_scratch4.sem) 0
          ∗ semVal (cell d L cc0_scratch5.sem) 0 ∗ bigSep (restCells d L) fun g => semVal g 0) := by
  unfold SparseCore.Cfg.ownSems0
  rw [SparseCore.bigSep_erase' (cell_own d L cc0_scoped0.sem (by decide)),
    SparseCore.bigSep_erase' (Finset.mem_erase.mpr ⟨cell_ne d L (by decide), cell_own d L cc0_scoped1.sem (by decide)⟩),
    SparseCore.bigSep_erase' (Finset.mem_erase.mpr ⟨cell_ne d L (by decide), Finset.mem_erase.mpr ⟨cell_ne d L (by decide), cell_own d L cc0_scratch4.sem (by decide)⟩⟩),
    SparseCore.bigSep_erase' (Finset.mem_erase.mpr ⟨cell_ne d L (by decide), Finset.mem_erase.mpr ⟨cell_ne d L (by decide),
      Finset.mem_erase.mpr ⟨cell_ne d L (by decide), cell_own d L cc0_scratch5.sem (by decide)⟩⟩⟩)]

abbrev buf (L : grid0.Coords) (b : Ref sig .scVector) : DevRef τ sig := (Proc.scVector (cV L) (jV L)).devRef b

omit [FloatOps F] in
theorem buf_ne {b b' : Ref sig .scVector} (h : b ≠ b') : buf L b ≠ buf L b' := fun e => absurd (Proc.devRef_injective _ e) h

/-- The buffers of the tile other than its four scratch buffers. -/
abbrev restBufs : Finset (DevRef τ sig) :=
  ((((ownRefs (τ := τ) (.scVector (cV L) (jV L))).erase (buf L cc0_scratch0)).erase (buf L cc0_scratch1)).erase (buf L cc0_scratch2)).erase (buf L cc0_scratch3)

omit [FloatOps F] in
theorem ownBufs_V :
    (ownBufs (tile d L) : sProp 𝕄)
      = iprop((∃ f, (wS).view.loc (tile d L) ↦{fullShare} f) ∗ (∃ f, (xS).view.loc (tile d L) ↦{fullShare} f)
          ∗ (∃ f, (aS).view.loc (tile d L) ↦{fullShare} f) ∗ (∃ f, (bS).view.loc (tile d L) ↦{fullShare} f)
          ∗ bigSep (restBufs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := buf L cc0_scratch0) rfl)).trans ?_
  rw [SparseCore.bigSep_erase' (Finset.mem_erase.mpr ⟨buf_ne L (show cc0_scratch1 ≠ cc0_scratch0 by decide),
      SparseCore.Cfg.mem_ownRefs_of_owner (p := Proc.scVector (cV L) (jV L)) (b := buf L cc0_scratch1) rfl⟩),
    SparseCore.bigSep_erase' (Finset.mem_erase.mpr ⟨buf_ne L (show cc0_scratch2 ≠ cc0_scratch1 by decide),
      Finset.mem_erase.mpr ⟨buf_ne L (show cc0_scratch2 ≠ cc0_scratch0 by decide),
      SparseCore.Cfg.mem_ownRefs_of_owner (p := Proc.scVector (cV L) (jV L)) (b := buf L cc0_scratch2) rfl⟩⟩),
    SparseCore.bigSep_erase' (Finset.mem_erase.mpr ⟨buf_ne L (show cc0_scratch3 ≠ cc0_scratch2 by decide),
      Finset.mem_erase.mpr ⟨buf_ne L (show cc0_scratch3 ≠ cc0_scratch1 by decide), Finset.mem_erase.mpr ⟨buf_ne L (show cc0_scratch3 ≠ cc0_scratch0 by decide),
      SparseCore.Cfg.mem_ownRefs_of_owner (p := Proc.scVector (cV L) (jV L)) (b := buf L cc0_scratch3) rfl⟩⟩⟩)]

/-! ## The tile's task -/

/-- The elements of the result that the tile at core `c`, subcore `s` writes. -/
abbrev part (c s : ℕ) : Finset S67108864.Idx := blk (16384 * (256 * s + 128 * c)) (16384 * (256 * s + 128 * c) + 2097152)

/-- The last two transfers' waits bring the rest of the tile's part back. -/
theorem part_join (x : S4096x256.Idx → F .f32) (w : S256x128.Idx → F .f32) :
    iprop((oLoc d ↦[blk (base L) (base L + 65536 * (32 - 1))]{fullShare} outVal x w)
        ∗ (oLoc d ↦[blk (base L + 65536 * (32 - 1)) (base L + 65536 * (32 - 1) + 32768)]{fullShare} outVal x w)
        ∗ (oLoc d ↦[blk (base L + 65536 * (32 - 1) + 32768) (base L + 65536 * (32 - 1) + 32768 + 32768)]{fullShare} outVal x w))
      ⊢ (oLoc d ↦[part (L 0).val (L 1).val]{fullShare} outVal x w : sProp 𝕄) := by
  have h := back_join (F := F) d x w (base L) 32
  unfold Back at h
  rw [if_neg (by decide), if_neg (by decide)] at h
  exact h

omit [FloatOps F] in
theorem pts_x (q : PosShare TreeShare) (f : S4096x256.Idx → F .f32) :
    (xLoc d ↦{q} f : sProp 𝕄) = (xW).view.loc (tile d L) ↦{q} f := rfl
omit [FloatOps F] in
theorem pts_w (q : PosShare TreeShare) (f : S256x128.Idx → F .f32) :
    (wLoc d ↦{q} f : sProp 𝕄) = (wW).view.loc (tile d L) ↦{q} f := rfl

theorem may_wait (O : CellTallies nD τ sig (HIx 1)) (hO : ∀ g, O g none = 0) :
    (levAts (K (F := F)).L (K (F := F)).lev : sProp 𝕄) ⊢ Transfers.MayWaits (tile d L) (default : HIx 1) O :=
  (K (F := F)).mayWaits_none (thr := tile d L) hO

omit [FloatOps F] in
theorem pts_part (fo : S67108864.Idx → F .f32) :
    (oLoc d ↦[part (L 0).val (L 1).val]{fullShare} fo : sProp 𝕄) = oLoc d ↦[blk (base L) (base L + 2097152)]{fullShare} fo := rfl

theorem two_waits (W W' : Waits sig (HIx 1)) (hW : ∀ q ∈ W', q ∈ W ∨ q.2 = none) (a b : SemLoc sig) :
    ∀ q ∈ insert (a, (default : HIx 1)) (insert (b, default) W'), q ∈ W ∨ q.2 = none := by
  intro q hq
  rcases Finset.mem_insert.mp hq with hq | hq; · exact .inr (hq ▸ rfl)
  rcases Finset.mem_insert.mp hq with hq | hq; · exact .inr (hq ▸ rfl)
  exact hW q hq

/-- Before the first trip: the buffers free, the tile's part of the result as it was. -/
theorem loop_start (x : S4096x256.Idx → F .f32) (w : S256x128.Idx → F .f32)
    (fo : S67108864.Idx → F .f32) (O : CellTallies nD τ sig (HIx 1)) (W W' : Waits sig (HIx 1)) (hW : ∀ q ∈ W', q ∈ W ∨ q.2 = none) :
    iprop(Transfers.MayWaits (tile d L) (default : HIx 1) O
        ∗ ((wS).view.loc (tile d L) ↦{fullShare} w) ∗ ((xS).view.loc (tile d L) ↦{fullShare} rowsOf x L)
        ∗ (∃ f, (aS).view.loc (tile d L) ↦{fullShare} f) ∗ (∃ f, (bS).view.loc (tile d L) ↦{fullShare} f)
        ∗ semVal (cell d L cc0_scratch4.sem) 0 ∗ semVal (cell d L cc0_scratch5.sem) 0
        ∗ (oLoc d ↦[blk (base L) (base L + 2097152)]{fullShare} fo) ∗ owes (tile d L) O W')
      ⊢ loopInv d L x w fo O W 0 ⟨⟩ := by
  have h0 : (oLoc d ↦[blk (base L) (base L + 65536 * (0 - 1))]{fullShare} fo : sProp 𝕄) = oLoc d ↦[blk (base L) (base L + 65536 * (0 - 1))]{fullShare} outVal x w :=
    pointsTo_congr fun y hy => absurd (mem_blk.1 hy) (by omega)
  iintro ⟨Hmw, Hw, Hx, Ha, Hb, H4, H5, Ho, HO⟩
  ihave Ho' := (Entails.of_eq (pts_blk (F := F) d fullShare fo (show base L ≤ base L + 65536 * (0 - 1) by omega)
      (show base L + 65536 * (0 - 1) ≤ base L + 2097152 by omega))) $$ Ho
  icases Ho' with ⟨H0, Ho⟩
  ihave H0' := (Entails.of_eq h0) $$ H0
  unfold loopInv Half
  rw [if_pos rfl, if_pos rfl]
  isplitl [Hmw]; · iexact Hmw
  isplitl [Hw]; · iexact Hw
  isplitl [Hx]; · iexact Hx
  isplitl [Ha H4]
  · isplitl [Ha]; · iexact Ha
    iexact H4
  isplitl [Hb H5]
  · isplitl [Hb]; · iexact Hb
    iexact H5
  isplitl [H0']; · iexact H0'
  isplitl [Ho]; · iexact Ho
  iexists W'; isplitr
  · ipureintro; exact hW
  · iexact HO

set_option maxRecDepth 16384 in
/-- The task of the tile at a symbolic grid point: the result's part comes back at the result's value. -/
theorem tile_body (hF : (K (F := F)).Facts) (qx qw : PosShare TreeShare) (x : S4096x256.Idx → F .f32) (w : S256x128.Idx → F .f32)
    (fo : S67108864.Idx → F .f32) (O : CellTallies nD τ sig (HIx 1)) (W : Waits sig (HIx 1)) (hO : ∀ g, O g none = 0) :
    iprop(levAts (K (F := F)).L (K (F := F)).lev ∗ emp
        ∗ ((xLoc d ↦{qx} x) ∗ (wLoc d ↦{qw} w) ∗ (oLoc d ↦[part (L 0).val (L 1).val]{fullShare} fo))
        ∗ scopedBufs (tile d L) ∗ scopedSems0 (tile d L) ∗ owes (tile d L) O W)
      ⊢ (wp frame (wpE (defs₀ (F := F)) 𝒱₀ (tile d L) none) Set.univ
          (cc0_k L xW (Memref.isWhole_whole _) wW (Memref.isWhole_whole _) oW (Memref.isWhole_whole _)
            wS (Memref.isWhole_whole _) xS (Memref.isWhole_whole _) aS (Memref.isWhole_whole _) bS (Memref.isWhole_whole _)
            cc0_scratch4 cc0_scratch5 cc0_scoped0 cc0_scoped1)
          fun _ => iprop(((xLoc d ↦{qx} x) ∗ (wLoc d ↦{qw} w) ∗ (oLoc d ↦[part (L 0).val (L 1).val]{fullShare} outVal x w))
            ∗ scopedBufs (tile d L) ∗ scopedSems0 (tile d L)
            ∗ ∃ W', ⌜∀ p ∈ W', p ∈ W ∨ p.2 = none⌝ ∗ owes (tile d L) O W') : sProp 𝕄) := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hx, Hw, Ho⟩, ⟨⟨%fw, HwS⟩, ⟨%fx, HxS⟩, Ha, Hb, Hbufs⟩, ⟨Hsem0, Hsem1, Hsem4, Hsem5, Hsems⟩, HO⟩
  ihave Hmw := (may_wait (F := F) d L O hO) $$ Hlv
  icases Hmw with #Hmw
  ihave Hx' := (Entails.of_eq (pts_x (F := F) d L qx x)) $$ Hx
  ihave Hw' := (Entails.of_eq (pts_w (F := F) d L qw w)) $$ Hw
  sl_exec
  have hW : View.write (Elt F) (wS).view fw (tile_body.sl.dma0 w) Finset.univ = w := (View.write_whole_univ ..).trans rfl
  have hX : View.write (Elt F) (xS).view fx (tile_body.sl.dma0_1 L x) Finset.univ = rowsOf x L := (View.write_whole_univ ..).trans rfl
  ihave HwS' := (Entails.of_eq (congrArg (fun f => ((wS).view.loc (tile d L) ↦{fullShare} f : sProp 𝕄)) hW)) $$ HwS
  ihave HxS' := (Entails.of_eq (congrArg (fun f => ((xS).view.loc (tile d L) ↦{fullShare} f : sProp 𝕄)) hX)) $$ HxS
  ihave Ho' := (Entails.of_eq (pts_part (F := F) d L fo)) $$ Ho
  -- the loop
  sl_for (loopInv d L x w fo O W) $$ [HwS' HxS' Ha Hb Hsem4 Hsem5 Ho' HO]
  case region =>
    intro t _
    exact loop_trip d L x w fo O W t
  · iapply (loop_start d L x w fo O W _ (two_waits W W (fun _ h => .inl h) _ _)) $$ [HwS' HxS' Ha Hb Hsem4 Hsem5 Ho' HO]
    isplitr; · iexact Hmw
    isplitl [HwS']; · iexact HwS'
    isplitl [HxS']; · iexact HxS'
    isplitl [Ha]; · iexact Ha
    isplitl [Hb]; · iexact Hb
    isplitl [Hsem4]; · iexact Hsem4
    isplitl [Hsem5]; · iexact Hsem5
    isplitl [Ho']; · iexact Ho'
    iexact HO
  iintro %_ HI
  ihave HI := (show (loopInv d L x w fo O W k0_t1_loop.trips ⟨⟩ : sProp 𝕄) ⊢ loopInv d L x w fo O W 32 ⟨⟩ from Entails.of_eq rfl) $$ HI
  unfold loopInv Half Flying
  rw [if_neg (by decide), if_neg (by decide)]
  icases HI with ⟨-, HwS, HxS, HfA, HfB, Hdone, -, %W', %hW', HO⟩
  -- the last two transfers' waits
  unfold tile_body.sl.prog.cont_1
  dsimp only
  rw [wp_bind]
  unfold Prog.lift
  iapply (Transfers.wp_waitLocalO (countersEmb (U := UU)) 𝒱₀ (tile d L) none (default : HIx 1) (credit_eq (k0_off41_inb L))) $$ [HfA HO]
  · isplitl [HfA]; · iexact HfA
    isplitl [HO]; · iexact HO
    iapply (Transfers.MayWaits.elim (SemLoc.dma cc0_scratch4.sem)) $$ Hmw
  iintro ⟨⟨HoA, Ha⟩, Hsem4, HO⟩
  iapply (le_wp_ret _ _ _ _ _)
  rw [wp_bind]
  iapply (Transfers.wp_waitLocalO (countersEmb (U := UU)) 𝒱₀ (tile d L) none (default : HIx 1) (credit_eq (k0_off42_inb L))) $$ [HfB HO]
  · isplitl [HfB]; · iexact HfB
    isplitl [HO]; · iexact HO
    iapply (Transfers.MayWaits.elim (SemLoc.dma cc0_scratch5.sem)) $$ Hmw
  iintro ⟨⟨HoB, Hb⟩, Hsem5, HO⟩
  iapply (le_wp_ret _ _ _ _ _)
  iapply (le_wp_ret _ _ _ _ _)
  ihave Ho := (part_join d L x w) $$ [Hdone HoA HoB]
  · isplitl [Hdone]; · iexact Hdone
    isplitl [HoA]; · iexact HoA
    iexact HoB
  isplitl [Hx' Hw' Ho]
  · isplitl [Hx']; · iapply (Entails.of_eq (pts_x (F := F) d L qx x).symm); iexact Hx'
    isplitl [Hw']; · iapply (Entails.of_eq (pts_w (F := F) d L qw w).symm); iexact Hw'
    iexact Ho
  isplitl [HwS HxS Ha Hb Hbufs]
  · isplitl [HwS]; · iexists _; iexact HwS
    isplitl [HxS]; · iexists _; iexact HxS
    isplitl [Ha]; · iexact Ha
    isplitl [Hb]; · iexact Hb
    iexact Hbufs
  isplitl [Hsem0 Hsem1 Hsem4 Hsem5 Hsems]
  · isplitl [Hsem0]; · iexact Hsem0
    isplitl [Hsem1]; · iexact Hsem1
    isplitl [Hsem4]; · iexact Hsem4
    isplitl [Hsem5]; · iexact Hsem5
    iexact Hsems
  iexists _; isplitr
  swap; · iexact HO
  ipureintro; exact two_waits W W' hW' _ _

end Tile

end Cert.Proof.PairSum
-- ==== Proof.Deal.lean ====
/-
  How the arrays are dealt to the thirty-two tiles: a reading share of each operand, and a part of the result.
-/
module

public import proofs.«01_k».proof.Proof.Tile

@[expose] public section

noncomputable section

namespace Cert.Proof.PairSum
open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ
local notation "xW" => (Memref.whole Cert.KernelIdeal.main_arg0_scv : Memref Cert.KernelIdeal.sig Kind.scVector Space.hbm Cert.KernelIdeal.S4096x256 EltTy.f32)
local notation "wW" => (Memref.whole Cert.KernelIdeal.main_arg1_scv : Memref Cert.KernelIdeal.sig Kind.scVector Space.hbm Cert.KernelIdeal.S256x128 EltTy.f32)
local notation "oW" => (Memref.whole Cert.KernelIdeal.main_v0_scv : Memref Cert.KernelIdeal.sig Kind.scVector Space.hbm Cert.KernelIdeal.S67108864 EltTy.f32)
local notation "wS" => (Memref.whole Cert.KernelIdeal.cc0_scratch0 : Memref Cert.KernelIdeal.sig Kind.scVector Space.vmem Cert.KernelIdeal.S256x128 EltTy.f32)
local notation "xS" => (Memref.whole Cert.KernelIdeal.cc0_scratch1 : Memref Cert.KernelIdeal.sig Kind.scVector Space.vmem Cert.KernelIdeal.S128x256 EltTy.f32)
local notation "aS" => (Memref.whole Cert.KernelIdeal.cc0_scratch2 : Memref Cert.KernelIdeal.sig Kind.scVector Space.vmem Cert.KernelIdeal.S32768 EltTy.f32)
local notation "bS" => (Memref.whole Cert.KernelIdeal.cc0_scratch3 : Memref Cert.KernelIdeal.sig Kind.scVector Space.vmem Cert.KernelIdeal.S32768 EltTy.f32)

/-! ## Reading shares of the operands -/

/-- The share of an operand that the tile at core `c`, subcore `s` reads under. -/
abbrev share (c s : ℕ) : PosShare TreeShare := Transfers.shareTokN (Transfers.shareTokN fullShare c) s

/-- What of an operand no tile reads under. -/
abbrev keep (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTokN fullShare c.val) 16} f)

omit [FloatOps F] in
theorem pts_toks (ℓ : Loc nD τ sig) (f : Buf (Elt F) ℓ) (q : PosShare TreeShare) (n : ℕ) :
    (ℓ ↦{q} f : sProp 𝕄) = iprop((ℓ ↦{Transfers.shareDrop q n} f) ∗ bigSep Finset.univ fun i : Fin n => ℓ ↦{Transfers.shareTokN q i.val} f) :=
  BI.Entails.antisymm (Transfers.pointsTo_toks q n).1 (Transfers.pointsTo_toks q n).2

omit [FloatOps F] in
theorem regroup (A B C : sProp 𝕄) : iprop(A ∗ B ∗ C) = iprop((A ∗ B) ∗ C) := by
  have h1 : iprop(A ∗ B ∗ C) ⊢ iprop((A ∗ B) ∗ C) := by
    iintro ⟨H1, H2, H3⟩
    isplitl [H1 H2]
    · isplitl [H1] <;> iassumption
    · iexact H3
  have h2 : iprop((A ∗ B) ∗ C) ⊢ iprop(A ∗ B ∗ C) := by
    iintro ⟨⟨H1, H2⟩, H3⟩
    isplitl [H1]; · iexact H1
    isplitl [H2] <;> iassumption
  exact BI.Entails.antisymm h1 h2

omit [FloatOps F] in
/-- An operand dealt to the tiles. -/
theorem pts_deal (ℓ : Loc nD τ sig) (f : Buf (Elt F) ℓ) :
    (ℓ ↦{fullShare} f : sProp 𝕄)
      = iprop(keep ℓ f ∗ bigSep Finset.univ fun c : Fin 2 => bigSep Finset.univ fun s : Fin 16 => ℓ ↦{share c.val s.val} f) := by
  have h : (bigSep Finset.univ fun c : Fin 2 => (ℓ ↦{Transfers.shareTokN fullShare c.val} f : sProp 𝕄))
      = iprop((bigSep Finset.univ fun c : Fin 2 => ℓ ↦{Transfers.shareDrop (Transfers.shareTokN fullShare c.val) 16} f)
        ∗ bigSep Finset.univ fun c : Fin 2 => bigSep Finset.univ fun s : Fin 16 => ℓ ↦{share c.val s.val} f) := by
    rw [← bigSep_sep']
    exact bigSep_congr fun c _ => pts_toks ℓ f _ 16
  rw [pts_toks ℓ f fullShare 2, h]
  unfold keep
  exact regroup _ _ _

/-! ## The result's parts -/

omit [FloatOps F] in
/-- The result is the tiles' parts. -/
theorem out_parts (d : Dev nD) (f : S67108864.Idx → F .f32) :
    (oLoc d ↦{fullShare} f : sProp 𝕄)
      = bigSep Finset.univ fun c : Fin 2 => bigSep Finset.univ fun s : Fin 16 => oLoc d ↦[part c.val s.val]{fullShare} f := by
  have hd : ∀ i ∈ (Finset.univ : Finset (Fin 2 × Fin 16)), ∀ j ∈ (Finset.univ : Finset (Fin 2 × Fin 16)), i ≠ j →
      Disjoint (part i.1.val i.2.val) (part j.1.val j.2.val) := by
    intro i _ j _ h
    have h' : ¬(i.1.val = j.1.val ∧ i.2.val = j.2.val) := fun e => h (Prod.ext (Fin.ext e.1) (Fin.ext e.2))
    rw [Finset.disjoint_left]
    intro y hi hj
    have hi := mem_blk.1 hi
    have hj := mem_blk.1 hj
    omega
  have hc : (Finset.univ : Finset (Fin 2 × Fin 16)).biUnion (fun i => part i.1.val i.2.val) = Finset.univ := by
    ext y
    simp only [Finset.mem_biUnion, Finset.mem_univ, true_and, iff_true]
    have hy : (y 0).val < 67108864 := (y 0).isLt
    refine ⟨(⟨(y 0).val / 2097152 % 2, by omega⟩, ⟨(y 0).val / 4194304, by omega⟩), mem_blk.2 ?_⟩
    dsimp only
    omega
  rw [← bigSep_univ_prod (fun i : Fin 2 × Fin 16 => (oLoc d ↦[part i.1.val i.2.val]{fullShare} f : sProp 𝕄)),
    ← pointsTo_biUnion Finset.univ (ℓ := oLoc d) (fun i : Fin 2 × Fin 16 => part i.1.val i.2.val) hd, hc]

/-! ## What a tile is handed, and all of it together -/

/-- The tile's shares of the operands and its part of the result. -/
abbrev hand (d : Dev nD) (x : S4096x256.Idx → F .f32) (w : S256x128.Idx → F .f32) (f : S67108864.Idx → F .f32) (c s : ℕ) : sProp 𝕄 :=
  iprop((xLoc d ↦{share c s} x) ∗ (wLoc d ↦{share c s} w) ∗ (oLoc d ↦[part c s]{fullShare} f))

omit [FloatOps F] in
theorem hand_all (d : Dev nD) (x : S4096x256.Idx → F .f32) (w : S256x128.Idx → F .f32) (f : S67108864.Idx → F .f32) :
    (bigSep Finset.univ fun c : Fin 2 => bigSep Finset.univ fun s : Fin 16 => hand d x w f c.val s.val)
      = (iprop((bigSep Finset.univ fun c : Fin 2 => bigSep Finset.univ fun s : Fin 16 => xLoc d ↦{share c.val s.val} x)
        ∗ (bigSep Finset.univ fun c : Fin 2 => bigSep Finset.univ fun s : Fin 16 => wLoc d ↦{share c.val s.val} w)
        ∗ (oLoc d ↦{fullShare} f)) : sProp 𝕄) := by
  rw [out_parts, ← bigSep_sep', ← bigSep_sep']
  refine bigSep_congr fun c _ => ?_
  rw [← bigSep_sep', ← bigSep_sep']

omit [FloatOps F] in
/-- The arrays whole, dealt to the tiles. -/
theorem deal (d : Dev nD) (x : S4096x256.Idx → F .f32) (w : S256x128.Idx → F .f32) (f : S67108864.Idx → F .f32) :
    iprop((xLoc d ↦{fullShare} x) ∗ (wLoc d ↦{fullShare} w) ∗ (oLoc d ↦{fullShare} f))
      ⊢ (iprop((keep (xLoc d) x ∗ keep (wLoc d) w) ∗ bigSep Finset.univ fun c : Fin 2 => bigSep Finset.univ fun s : Fin 16 => hand d x w f c.val s.val) : sProp 𝕄) := by
  rw [hand_all, pts_deal (xLoc d) x, pts_deal (wLoc d) w]
  iintro ⟨⟨Hkx, Hx⟩, ⟨Hkw, Hw⟩, Ho⟩
  isplitl [Hkx Hkw]
  · isplitl [Hkx] <;> iassumption
  isplitl [Hx]; · iexact Hx
  isplitl [Hw] <;> iassumption

omit [FloatOps F] in
/-- and collected again. -/
theorem collect (d : Dev nD) (x : S4096x256.Idx → F .f32) (w : S256x128.Idx → F .f32) (f : S67108864.Idx → F .f32) :
    iprop((keep (xLoc d) x ∗ keep (wLoc d) w) ∗ bigSep Finset.univ fun c : Fin 2 => bigSep Finset.univ fun s : Fin 16 => hand d x w f c.val s.val)
      ⊢ (iprop((xLoc d ↦{fullShare} x) ∗ (wLoc d ↦{fullShare} w) ∗ (oLoc d ↦{fullShare} f)) : sProp 𝕄) := by
  rw [hand_all, pts_deal (xLoc d) x, pts_deal (wLoc d) w]
  iintro ⟨⟨Hkx, Hkw⟩, Hx, Hw, Ho⟩
  isplitl [Hkx Hx]
  · isplitl [Hkx] <;> iassumption
  isplitl [Hkw Hw]
  · isplitl [Hkw] <;> iassumption
  iexact Ho

end Cert.Proof.PairSum
-- ==== Proof.Launch.lean ====
/-
  The whole program's run: the call on the thirty-two tiles, the host's reshape, and what every run ends with.
-/
module

public import proofs.«01_k».proof.Proof.Deal
public import Idealize.ShloMosaic.Lib.SparseCore.Quiescent
public import Idealize.ShloMosaic.Lib.StableHlo.Run

@[expose] public section

noncomputable section

namespace Cert.Proof.PairSum
open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]
local notation "𝕄" => MT nD τ sig (HIx 1) (Elt F) ℕ UU ℕ
local notation "xW" => (Memref.whole Cert.KernelIdeal.main_arg0_scv : Memref Cert.KernelIdeal.sig Kind.scVector Space.hbm Cert.KernelIdeal.S4096x256 EltTy.f32)
local notation "wW" => (Memref.whole Cert.KernelIdeal.main_arg1_scv : Memref Cert.KernelIdeal.sig Kind.scVector Space.hbm Cert.KernelIdeal.S256x128 EltTy.f32)
local notation "oW" => (Memref.whole Cert.KernelIdeal.main_v0_scv : Memref Cert.KernelIdeal.sig Kind.scVector Space.hbm Cert.KernelIdeal.S67108864 EltTy.f32)
local notation "wS" => (Memref.whole Cert.KernelIdeal.cc0_scratch0 : Memref Cert.KernelIdeal.sig Kind.scVector Space.vmem Cert.KernelIdeal.S256x128 EltTy.f32)
local notation "xS" => (Memref.whole Cert.KernelIdeal.cc0_scratch1 : Memref Cert.KernelIdeal.sig Kind.scVector Space.vmem Cert.KernelIdeal.S128x256 EltTy.f32)
local notation "aS" => (Memref.whole Cert.KernelIdeal.cc0_scratch2 : Memref Cert.KernelIdeal.sig Kind.scVector Space.vmem Cert.KernelIdeal.S32768 EltTy.f32)
local notation "bS" => (Memref.whole Cert.KernelIdeal.cc0_scratch3 : Memref Cert.KernelIdeal.sig Kind.scVector Space.vmem Cert.KernelIdeal.S32768 EltTy.f32)

variable (m : (ℓ : Loc nD τ sig) → Buf (Elt F) ℓ) (ρ : Dev nD → PrngReg)

/-! ## What the call's handshakes carry -/

abbrev iLoc (d : Dev nD) : Loc nD τ sig := (SparseCore.T d).loc main_arg2
abbrev rLoc (d : Dev nD) : Loc nD τ sig := (SparseCore.T d).loc main_v1

abbrev xAt (d : Dev nD) : S4096x256.Idx → F .f32 := m (xLoc d)
abbrev wAt (d : Dev nD) : S256x128.Idx → F .f32 := m (wLoc d)

/-- The tile's hand as the call begins, and as it ends. -/
abbrev handIn (d : Dev nD) (c s : ℕ) : sProp 𝕄 := hand d (xAt m d) (wAt m d) (m (oLoc d)) c s
abbrev handOut (d : Dev nD) (c s : ℕ) : sProp 𝕄 := hand d (xAt m d) (wAt m d) (outVal (xAt m d) (wAt m d)) c s

/-- Each SparseCore takes its tiles' hands and gives them back with the result's value. -/
def P : (K (F := F)).Pay (nD := nD) (Val := Elt F) (Name := ℕ) (U := UU) where
  st := fun q d c => match q with | 0 => bigSep Finset.univ fun s : Fin 16 => handIn m d c.val s.val
  dn := fun q d c => match q with | 0 => bigSep Finset.univ fun s : Fin 16 => handOut m d c.val s.val
  go := fun q d c i => match q with | 0 => handIn m d c.val i.val
  td := fun q d c i => match q with | 0 => handOut m d c.val i.val
  x := fun _ _ => iprop(emp)

instance P_storable : (P (F := F) m).IsStorable where
  st q d c := match q with
    | 0 => (inferInstance : BI.Storable (upEmb : UEmb _ 𝕄) (bigSep Finset.univ fun s : Fin 16 => handIn m d c.val s.val))
  dn q d c := match q with
    | 0 => (inferInstance : BI.Storable (upEmb : UEmb _ 𝕄) (bigSep Finset.univ fun s : Fin 16 => handOut m d c.val s.val))
  go q d c i := match q with
    | 0 => (inferInstance : BI.Storable (upEmb : UEmb _ 𝕄) (handIn m d c.val i.val))
  td q d c i := match q with
    | 0 => (inferInstance : BI.Storable (upEmb : UEmb _ 𝕄) (handOut m d c.val i.val))

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) xW (Memref.isWhole_whole _) wW (Memref.isWhole_whole _) oW (Memref.isWhole_whole _)
            wS (Memref.isWhole_whole _) xS (Memref.isWhole_whole _) aS (Memref.isWhole_whole _) bS (Memref.isWhole_whole _)
            cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (share c.val i.val) (share c.val i.val) (xAt m d) (wAt m d) (m (oLoc d)) O W hO).trans
    (wp_mono frame _ _ fun _ => obl_post)

theorem vecSplit : (K (F := F)).VecSplit' (P m) 0 := by
  intro d c
  show (bigSep Finset.univ fun s : Fin 16 => handIn m d c.val s.val) ⊢ |={Set.univ}=> iprop(
      (bigSep Finset.univ fun s : Fin 16 => handIn m d c.val s.val)
      ∗ ((bigSep Finset.univ fun s : Fin 16 => handOut m d c.val s.val) -∗ bigSep Finset.univ fun s : Fin 16 => handOut m d c.val s.val))
  iintro H; imodintro
  isplitl [H]; · iexact H
  iintro H; iexact H

/-! ## The ghost state at the launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's program -/

abbrev x' : DevRef τ sig := Proc.devRef .tc (main_arg0 : Ref sig .tc)
abbrev w' : DevRef τ sig := Proc.devRef .tc (main_arg1 : Ref sig .tc)
abbrev i' : DevRef τ sig := Proc.devRef .tc (main_arg2 : Ref sig .tc)
abbrev o' : DevRef τ sig := Proc.devRef .tc (main_v0 : Ref sig .tc)
abbrev r' : DevRef τ sig := Proc.devRef .tc (main_v1 : Ref sig .tc)
/-- The reshape of the flat result. -/
abbrev opShape : HloOp τ sig (Elt F) := StableHlo.reshape main_v0 main_v1 (rfl : (.f32 : EltTy) = .f32) shapeCasts_S67108864_S4096x128x128

abbrev S5 : Finset (DevRef τ sig) := {x', w', i', o', r'}

omit [FloatOps F] in
theorem held_S5 (d : Dev nD) (W : Valuation τ sig (Elt F)) :
    (held (T d) S5 W : sProp 𝕄) = iprop((xLoc d ↦{fullShare} W x') ∗ (wLoc d ↦{fullShare} W w') ∗ (iLoc d ↦{fullShare} W i')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (wLoc d ↦{fullShare} W main_arg1) ∗ (iLoc d ↦{fullShare} W main_arg2)
      ∗ (oLoc d ↦{fullShare} W main_v0) ∗ rLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

/-- The arrays at the launch; and after the call, the flat result at its value. -/
def V0 (d : Dev nD) : Valuation τ sig (Elt F) := fun b => m (d, b)
def V1 (d : Dev nD) : Valuation τ sig (Elt F) := Function.update (V0 m d) o' (outVal (xAt m d) (wAt m d))

/-- The result as the host returns it. -/
def result (x : S4096x256.Idx → F .f32) (w : S256x128.Idx → F .f32) : S4096x128x128.Idx → F .f32 :=
  shapeCast S4096x128x128 (outVal x w) shapeCasts_S67108864_S4096x128x128

theorem V1_x (d : Dev nD) : V1 m d x' = m (xLoc d) := Function.update_of_ne (show x' ≠ o' by decide) _ _
theorem V1_w (d : Dev nD) : V1 m d w' = m (wLoc d) := Function.update_of_ne (show w' ≠ o' by decide) _ _
theorem V1_i (d : Dev nD) : V1 m d i' = m (iLoc d) := Function.update_of_ne (show i' ≠ o' by decide) _ _
theorem V1_o (d : Dev nD) : V1 m d o' = outVal (xAt m d) (wAt m d) := Function.update_self _ _ _
theorem V1_r (d : Dev nD) : V1 m d r' = m (rLoc d) := Function.update_of_ne (show r' ≠ o' by decide) _ _

theorem V2_keep (d : Dev nD) {b : DevRef τ sig} (h : b ≠ r') : (opShape (F := F)).result (V1 m d) b = V1 m d b :=
  (opShape (F := F)).result_of_not_mem (V1 m d) (by
    show b ∉ ({r'} : Finset (DevRef τ sig))
    rw [Finset.mem_singleton]; exact h)
theorem V2_r (d : Dev nD) : (opShape (F := F)).result (V1 m d) r' = result (xAt m d) (wAt m d) := by
  refine (StableHlo.reshape_result main_v0 main_v1 rfl shapeCasts_S67108864_S4096x128x128 _ _ (V1 m d)).trans ?_
  show shapeCast S4096x128x128 (V1 m d o') shapeCasts_S67108864_S4096x128x128 = _
  rw [V1_o]; rfl

theorem st0_eq (d : Dev nD) : (bigSep Finset.univ fun c : Fin ((K (F := F)).nCore 0) => (P m).st 0 d c)
    = bigSep Finset.univ fun c : Fin 2 => bigSep Finset.univ fun s : Fin 16 => handIn m d c.val s.val := rfl
theorem dn0_eq (d : Dev nD) : (bigSep Finset.univ fun c : Fin ((K (F := F)).nCore 0) => (P m).dn 0 d c)
    = bigSep Finset.univ fun c : Fin 2 => bigSep Finset.univ fun s : Fin 16 => handOut m d c.val s.val := rfl

theorem hShape : (opShape (F := F)).bufs ⊆ S5 := show ({o', r'} : Finset (DevRef τ sig)) ⊆ S5 by decide

/-- What the host's program leaves: the arguments as they were, the result at its value. -/
abbrev FIN (d : Dev nD) : sProp 𝕄 :=
  iprop((xLoc d ↦{fullShare} m (xLoc d)) ∗ (wLoc d ↦{fullShare} m (wLoc d)) ∗ (iLoc d ↦{fullShare} m (iLoc d))
    ∗ rLoc d ↦{fullShare} result (xAt m d) (wAt m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hw, Hi, Ho, Hr⟩, Hts, -⟩, -⟩
  ihave Hd := (deal d (xAt m d) (wAt m d) (m (oLoc d))) $$ [Hx Hw Ho]
  · isplitl [Hx]; · iexact Hx
    isplitl [Hw]; · iexact Hw
    iexact Ho
  icases Hd with ⟨Hk, Hd⟩
  -- the call
  iapply ((K (F := F)).wp_run (D (F := F)) 𝒱 (EH := EH) (P := P m) κ d 0) $$ [Hst Hd Hk Hi Hb Hr Hts]
  isplitr; · iexact Hctx
  isplitl [Hst]; · iexact Hst
  isplitl [Hd]
  · rw [st0_eq]; iexact Hd
  iintro ⟨Hst, Hdn⟩
  ihave Hdn' := (Entails.of_eq (dn0_eq m d)) $$ Hdn
  ihave Hc := (collect d (xAt m d) (wAt m d) (outVal (xAt m d) (wAt m d))) $$ [Hk Hdn']
  · isplitl [Hk] <;> iassumption
  icases Hc with ⟨Hx, Hw, Ho⟩
  -- the reshape
  iapply (wp_hlo_within 𝒱 (SparseCore.T d) none Set.univ (op := opShape) (S := S5) hShape (V := V1 m d)) $$ [Hb Hx Hw Hi Ho Hr]
  · isplitl [Hb]; · iexact Hb
    rw [held_S5, V1_x, V1_w, V1_i, V1_o, V1_r]
    isplitl [Hx]; · iexact Hx
    isplitl [Hw]; · iexact Hw
    isplitl [Hi]; · iexact Hi
    isplitl [Ho]; · iexact Ho
    iexact Hr
  iintro ⟨Hb, Hheld⟩
  ihave Hh := (Entails.of_eq (held_S5 (F := F) d _)) $$ Hheld
  rw [V2_r, V2_keep m d (show x' ≠ r' by decide), V2_keep m d (show w' ≠ r' by decide), V2_keep m d (show i' ≠ r' by decide), V1_x, V1_w, V1_i]
  icases Hh with ⟨Hx, Hw, Hi, -, Hr⟩
  rw [wp_ret]; imodintro; imodintro
  isplitl [Hst]; · iexact Hst
  isplitr [Hb Hts]
  · isplitl [Hx]; · iexact Hx
    isplitl [Hw]; · iexact Hw
    isplitl [Hi]; · iexact Hi
    iexact Hr
  isplitl [Hb] <;> iassumption

/-! ## The run -/

def fq (d : Dev nD) (s' : Phys nD τ sig (Elt F)) : Prop :=
  s'.mem.mem (xLoc d) = m (xLoc d) ∧ s'.mem.mem (wLoc d) = m (wLoc d) ∧ s'.mem.mem (iLoc d) = m (iLoc d)
    ∧ s'.mem.mem (rLoc d) = result (xAt m d) (wAt m d)

omit [FloatOps F] in
theorem agree (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨Hx, Hw, Hi, Hr⟩, HSI⟩
  ihave H := (agree (xLoc d) _ s') $$ [HSI Hx]
  · isplitl [HSI] <;> iassumption
  icases H with ⟨%h1, HSI⟩
  ihave H := (agree (wLoc d) _ s') $$ [HSI Hw]
  · isplitl [HSI] <;> iassumption
  icases H with ⟨%h2, HSI⟩
  ihave H := (agree (iLoc d) _ s') $$ [HSI Hi]
  · isplitl [HSI] <;> iassumption
  icases H with ⟨%h3, HSI⟩
  ihave H := (agree (rLoc d) _ s') $$ [HSI Hr]
  · isplitl [HSI] <;> iassumption
  icases H with ⟨%h4, -⟩
  ipureintro; exact ⟨h1, h2, h3, h4⟩

/-- How every run ends: the arguments unchanged, the result at its value, every semaphore back at zero. -/
def QC : PUnit × MemSt nD τ sig (Elt F) → Prop := fun r =>
  (∀ c : Dev nD, r.2.mem (xLoc c) = m (xLoc c) ∧ r.2.mem (wLoc c) = m (wLoc c) ∧ r.2.mem (iLoc c) = m (iLoc c)
    ∧ r.2.mem (rLoc c) = result (xAt m c) (wAt m c)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.PairSum
-- ==== Proof.Frames.lean ====
/-
  The frames: every run of the kernel ends with its arguments unchanged and its semaphores at zero, at the machine's
  floats and at the ideal ones; and the reference's runs likewise.
-/
module

public import proofs.«01_k».proof.Defs
public import proofs.«01_k».proof.Proof.Launch
public import proofs.«01_k».proof.Proof.Gen.Kernel
public import proofs.«01_k».proof.Proof.Gen.Pre_pre
public import proofs.«01_k».proof.Proof.Gen.ReferenceIdeal.Run

@[expose] public section

noncomputable section

namespace Cert.Proof.PairSum
open Idealize.ShloMosaic Idealize.SL.Sem

theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩)
    (run_main (F := Ideal) m ρ)

theorem frame_kernelIdeal_pre : Cert.quiescent_KernelIdeal_pre_pre := fun m ρ _ => frame_kernelIdeal m ρ trivial

theorem frame_kernel : Cert.quiescent_Kernel := fun m ρ _ =>
  (θ_run Cert.KernelIdeal.defs _ _).mono (fun _ h => ⟨fun c => ⟨(h.1 c).1, (h.1 c).2.1, (h.1 c).2.2.1⟩, h.2⟩)
    (run_main (F := Bits) m ρ)

theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_referenceIdeal_pre : Cert.quiescent_ReferenceIdeal_pre_pre := fun m ρ _ => frame_referenceIdeal m ρ trivial

end Cert.Proof.PairSum
-- ==== Proof.Table.lean ====
/-
  The index table. Under the precondition row `i` of the table is `(i / 2, i)`: entry `i` of a row of `x` is multiplied by row `i`
  of `w` and added into output row `i / 2`.
-/
module

public import proofs.«01_k».proof.Pre_pre
public import proofs.«01_k».proof.Proof.Gen.Pre_pre
public import Idealize.ShloMosaic.Lib.ReduceAll
public import Idealize.ShloMosaic.Lib.ValueLayout
public import Idealize.ShloMosaic.Lib.StableHlo.Predicate
public import Idealize.ShloMosaic.Lib.Pipeline.Value
public import Idealize.ShloMosaic.PureOps.Ideal

@[expose] public section

noncomputable section

namespace Cert.Proof.PairSum.Ref

open Cert.Pre_pre Cert.Pre_pre.Gen
open Idealize.ShloMosaic Idealize.ShloMosaic.ValueIdx Idealize.ShloMosaic.StableHlo.Predicate

/-- Row `i` of the table is `(i / 2, i)`. -/
structure Lists (ind : IVec S256x2 32) : Prop where
  out : ∀ i : Fin 256, ind (ix2 i 0) = BitVec.ofNat 32 (i.val / 2)
  inp : ∀ i : Fin 256, ind (ix2 i 1) = BitVec.ofNat 32 i.val

/-- A column of the table, cut out and read flat. -/
theorem col_apply (ind : IVec S256x2 32) (o : Fin 2) (h : S256x2.Slices ![0, o.val] S256x1) (hc : S256x1.ShapeCasts S256) (i : Fin 256) :
    shapeCast S256 (extractStridedSlice S256x1 ![0, o.val] ind h) hc (ix1 i) = ind (ix2 i o) := by
  refine (shapeCast_apply _ hc (ix1 i) (ix2 i (0 : Fin 1)) ?_).trans (extractStridedSlice_apply _ _ h _ _ ?_)
  · rw [Shape.rowMajor_val_two, Shape.rowMajor_val_one]
    show i.val * 1 + 0 = i.val
    omega
  · intro a
    match a with
    | ⟨0, _⟩ => exact (Nat.zero_add _).symm
    | ⟨1, _⟩ => exact (Nat.add_zero _).symm

/-- Halving the first 256 words as the precondition writes it. -/
theorem halves (i : Fin 256) :
    fn_floor_divide (F := Ideal) (iotaInDim S256 32 0) (constantI S_ 32 2#32) (ix1 i) = BitVec.ofNat 32 (i.val / 2) := by
  revert i
  decide +kernel

theorem lists_of_pre {x : FVec Ideal S4096x256 .f32} {w : FVec Ideal S256x128 .f32} {ind : IVec S256x2 32}
    (h : Cert.Pre_pre.fn (F := Ideal) x w ind = fun _ => 1#1) : Lists ind := by
  have e := congrFun h ix0
  unfold Cert.Pre_pre.fn at e
  dsimp only at e
  obtain ⟨e0, e1⟩ := IntOp.andi_eq_one.1 e
  haveI : Subsingleton S_.Idx := ⟨fun a b => (eq_ix0 a).trans (eq_ix0 b).symm⟩
  constructor
  · intro i
    have q := cmpi_eq_iff.1 (Host.reduce_andi_all _ _ _ _ _ e0 (ix1 i))
    exact (col_apply ind 0 _ _ i).symm.trans (q.trans (halves i))
  · intro i
    have q := cmpi_eq_iff.1 (Host.reduce_andi_all _ _ _ _ _ e1 (ix1 i))
    exact (col_apply ind 1 _ _ i).symm.trans q

end Cert.Proof.PairSum.Ref
-- ==== Proof.RefValue.lean ====
/-
  What the reference computes when the table lists `(i / 2, i)`: gathering columns by the table is the identity, and the sum over
  the rows that the table sends to output row `g` is the sum over the two entries `2 g` and `2 g + 1`.
-/
module

public import proofs.«01_k».proof.ReferenceIdeal
public import proofs.«01_k».proof.Proof.Gen.ReferenceIdeal
public import proofs.«01_k».proof.Proof.Table
public import Idealize.ShloMosaic.Lib.Routing.OpsPair
public import Idealize.ShloMosaic.PureOps.Ideal.Laws

@[expose] public section

noncomputable section

namespace Cert.Proof.PairSum.Ref

open Cert.ReferenceIdeal Cert.ReferenceIdeal.Gen
open Idealize.ShloMosaic Idealize.ShloMosaic.ValueIdx Idealize.ShloMosaic.StableHlo.Predicate

variable {ind : IVec S256x2 32}

/-! ## The gather -/

/-- Column `1` of the table, flat; the columns to read, a negative one counted from the end; and as a column of starts. -/
def cols (ind : IVec S256x2 32) : IVec S256 32 :=
  shapeCast S256 (extractStridedSlice S256x1 ![0, 1] ind slices_S256x2_S256x1_0_1) shapeCasts_S256x1_S256
def wrapped (ind : IVec S256x2 32) : IVec S256 32 :=
  select (cmpi .slt (cols ind) (broadcastInDim S256 ![] bcast_S_S256 (constantI S_ 32 0#32)))
    (addi (cols ind) (broadcastInDim S256 ![] bcast_S_S256 (constantI S_ 32 256#32))) (cols ind)
def starts (ind : IVec S256x2 32) : IVec S256x1 32 := broadcastInDim S256x1 ![0] bcast_S256_S256x1_0 (wrapped ind)

theorem starts_apply (h : Lists ind) (i : Fin 256) (o : Fin 1) : starts ind (ix2 i o) = BitVec.ofNat 32 i.val := by
  have hc : cols ind (ix1 i) = BitVec.ofNat 32 i.val := (col_apply ind 1 _ _ i).trans (h.inp i)
  have hs : starts ind (ix2 i o) = wrapped ind (ix1 i) :=
    broadcastInDim_apply _ _ _ _ (ix1 i) fun a => by match a with | ⟨0, _⟩ => rfl
  rw [hs]
  refine (?_ : wrapped ind (ix1 i) = cols ind (ix1 i)).trans hc
  refine Routing.wrap_of_lt (w := 32) (cols ind (ix1 i)) _ ?_
  rw [hc, BitVec.toNat_ofNat]
  have := i.isLt
  omega

/-- Which starts lie inside `x`. -/
def inside (ind : IVec S256x2 32) : IVec S256 1 :=
  Host.reduce IntOp.andi
    (andi (cmpi .sge (starts ind) (broadcastInDim S256x1 ![] bcast_S_S256x1 (constantI S_ 32 0#32)))
      (cmpi .sle (starts ind) (broadcastInDim S256x1 ![0, 1] bcast_S1x1_S256x1_0_1 (broadcastInDim S1x1 ![1] bcast_S1_S1x1_1 (constantI S1 32 255#32)))))
    (constantI S_ 1 1#1) reducesTo_S256x1_S256_d1 h_S_

theorem inside_one (h : Lists ind) (j : S256.Idx) : inside ind j = 1#1 := by
  have key : ∀ (i : Fin 256) (o : Fin 1),
      IntOp.andi (IntOp.cmpi .sge (starts ind (ix2 i o)) 0#32) (IntOp.cmpi .sle (starts ind (ix2 i o)) 255#32) = 1#1 := fun i o => by
    have hi := i.isLt
    rw [starts_apply h]
    refine IntOp.andi_eq_one.2 ⟨(sge_iff_toNat ?_ (by decide)).2 ?_, (sle_iff_toNat ?_ (by decide)).2 ?_⟩ <;>
      simp only [BitVec.toNat_ofNat] <;> omega
  refine Host.reduce_andi_one _ _ _ _ _ rfl fun k => ?_
  rw [eq_ix2 (n0 := 256) (n1 := 1) k]
  exact key (k 0) (k 1)

/-- The columns of `x` named by the table, a filler where one lies outside. -/
def taken (x : FVec Ideal S4096x256 .f32) (ind : IVec S256x2 32) : FVec Ideal S4096x256 .f32 :=
  select (broadcastInDim S4096x256 ![1] bcast_S256_S4096x256_1 (inside ind))
    (Host.gather gather_S4096x256_S256x1_S4096x256_0_1_n_n_1_1_40961 x (starts ind))
    (broadcastInDim S4096x256 ![] bcast_S_S4096x256 (constant S_ .f32 0x7FC00000#32))

abbrev gd := gather_S4096x256_S256x1_S4096x256_0_1_n_n_1_1_40961

/-- The start that result entry `(b, i)` reads is entry `i` of the starts. -/
theorem gd_siIdx (b : Fin 4096) (i : Fin 256) (c : Fin gd.startIndexMap.length) : gd.siIdx (ix2 b i) c = ix2 i 0 := by
  funext a
  match a with
  | ⟨0, _⟩ => rfl
  | ⟨1, _⟩ => exact Subsingleton.elim (α := Fin 1) _ _

theorem taken_eq (x : FVec Ideal S4096x256 .f32) (h : Lists ind) : taken x ind = x := by
  have key : ∀ (b : Fin 4096) (i : Fin 256), taken x ind (ix2 b i) = x (ix2 b i) := fun b i => by
    have h1 : broadcastInDim S4096x256 ![1] bcast_S256_S4096x256_1 (inside ind) (ix2 b i) = 1#1 :=
      (broadcastInDim_apply _ _ _ _ (ix1 i) fun a => by match a with | ⟨0, _⟩ => rfl).trans (inside_one h _)
    unfold taken select
    rw [h1]
    show Host.gather gd x (starts ind) (ix2 b i) = _
    refine congrArg x (funext fun a => Fin.ext ?_)
    match a with
    | ⟨0, _⟩ =>
      show 0 + 0 + b.val = b.val
      omega
    | ⟨1, _⟩ =>
      show min (starts ind (gd.siIdx (ix2 b i) _)).toInt.toNat (256 - 1) + 0 + 0 = i.val
      rw [gd_siIdx, starts_apply h, toInt_ofNat_small _ (by omega)]
      omega
  funext j
  rw [eq_ix2 (n0 := 4096) (n1 := 256) j]
  exact key (j 0) (j 1)

/-! ## The products -/

/-- `w[i, v] * x[b, i]` at `(b, i, v)`. -/
def products (x : FVec Ideal S4096x256 .f32) (w : FVec Ideal S256x128 .f32) (ind : IVec S256x2 32) : FVec Ideal S4096x256x128 .f32 :=
  mulf (broadcastInDim S4096x256x128 ![0, 1, 2] bcast_S1x256x128_S4096x256x128_0_1_2 (broadcastInDim S1x256x128 ![1, 2] bcast_S256x128_S1x256x128_1_2 w))
    (broadcastInDim S4096x256x128 ![0, 1, 2] bcast_S4096x256x1_S4096x256x128_0_1_2 (broadcastInDim S4096x256x1 ![0, 1] bcast_S4096x256_S4096x256x1_0_1 (taken x ind)))

theorem products_apply (x : FVec Ideal S4096x256 .f32) (w : FVec Ideal S256x128 .f32) (h : Lists ind) (b : Fin 4096) (i : Fin 256) (v : Fin 128) :
    products x w ind (ix3 b i v) = (w (ix2 i v) * x (ix2 b i) : EReal) := by
  unfold products
  rw [taken_eq x h]
  refine congrArg₂ (fun p q : EReal => p * q) ?_ ?_
  · refine (broadcastInDim_apply _ _ _ _ (ix3 0 i v) fun a => ?_).trans (broadcastInDim_apply _ _ _ _ (ix2 i v) fun a => ?_)
    · match a with | ⟨0, _⟩ => rfl | ⟨1, _⟩ => rfl | ⟨2, _⟩ => rfl
    · match a with | ⟨0, _⟩ => rfl | ⟨1, _⟩ => rfl
  · refine (broadcastInDim_apply _ _ _ _ (ix3 b i 0) fun a => ?_).trans (broadcastInDim_apply _ _ _ _ (ix2 b i) fun a => ?_)
    · match a with | ⟨0, _⟩ => rfl | ⟨1, _⟩ => rfl | ⟨2, _⟩ => rfl
    · match a with | ⟨0, _⟩ => rfl | ⟨1, _⟩ => rfl

/-! ## The sums -/

/-- Column `0` of the table as a column of starts. -/
def rows (ind : IVec S256x2 32) : IVec S256x1 32 :=
  broadcastInDim S256x1 ![0] bcast_S256_S256x1_0
    (shapeCast S256 (extractStridedSlice S256x1 ![0, 0] ind slices_S256x2_S256x1_0_0) shapeCasts_S256x1_S256)

theorem rows_apply (h : Lists ind) (i : Fin 256) (o : Fin 1) : rows ind (ix2 i o) = BitVec.ofNat 32 (i.val / 2) :=
  (broadcastInDim_apply _ _ _ _ (ix1 i) fun a => by match a with | ⟨0, _⟩ => rfl).trans ((col_apply ind 0 _ _ i).trans (h.out i))

abbrev sd := scatter_S128x4096x128_S256x1_S256x4096x128_12_0_0_1

theorem sd_siIdx (j : S256x4096x128.Idx) (c : Fin sd.scatterDimsToOperandDims.length) : sd.siIdx j c = ix2 (j 0) 0 := by
  funext a
  match a with
  | ⟨0, _⟩ => rfl
  | ⟨1, _⟩ => exact Subsingleton.elim (α := Fin 1) _ _

/-- The product at `(i, b', v')` is added into `(g, b, v)` exactly when `i / 2 = g`, `b' = b` and `v' = v`. -/
theorem lands (h : Lists ind) (j : S256x4096x128.Idx) (g : Fin 128) (b : Fin 4096) (v : Fin 128) :
    sd.resultIdx? j (rows ind) = some (ix3 g b v) ↔ (j 0).val / 2 = g.val ∧ j 1 = b ∧ j 2 = v := by
  have hj : (j 0).val < 256 := (j 0).isLt
  have h0 : sd.start j (rows ind) 0 = ((j 0).val / 2 : ℕ) := by
    show (rows ind (sd.siIdx j _)).toInt = _
    rw [sd_siIdx]
    exact (congrArg BitVec.toInt (rows_apply h (j 0) 0)).trans (toInt_ofNat_small _ (by omega))
  rw [Routing.resultIdx?_eq_some]
  constructor
  · intro q
    have q0 : sd.start j (rows ind) 0 + ((0 : ℕ) : Int) = (g.val : Int) := q 0
    have q1 : (0 : Int) + ((j 1).val : Int) = (b.val : Int) := q 1
    have q2 : (0 : Int) + ((j 2).val : Int) = (v.val : Int) := q 2
    rw [h0] at q0
    exact ⟨by omega, Fin.ext (by omega), Fin.ext (by omega)⟩
  · rintro ⟨q0, q1, q2⟩ a
    match a with
    | ⟨0, _⟩ =>
      show sd.start j (rows ind) 0 + ((0 : ℕ) : Int) = (g.val : Int)
      rw [h0]; omega
    | ⟨1, _⟩ =>
      show (0 : Int) + ((j 1).val : Int) = (b.val : Int)
      rw [q1]; omega
    | ⟨2, _⟩ =>
      show (0 : Int) + ((j 2).val : Int) = (v.val : Int)
      rw [q2]; omega

/-- The reference's result. -/
def out (x : FVec Ideal S4096x256 .f32) (w : FVec Ideal S256x128 .f32) (ind : IVec S256x2 32) : FVec Ideal S4096x128x128 .f32 :=
  transpose S4096x128x128 [1, 0, 2]
    (Host.scatterAdd sd (broadcastInDim S128x4096x128 ![] bcast_S_S128x4096x128 (constant S_ .f32 0x00000000#32)) (rows ind)
      (transpose S256x4096x128 [1, 0, 2] (products x w ind) transposes_S4096x256x128_S256x4096x128_1_0_2))
    transposes_S128x4096x128_S4096x128x128_1_0_2

/-- Entries `2 g` and `2 g + 1`. -/
abbrev lo (g : Fin 128) : Fin 256 := ⟨2 * g.val, by omega⟩
abbrev hi (g : Fin 128) : Fin 256 := ⟨2 * g.val + 1, by omega⟩

theorem out_apply (x : FVec Ideal S4096x256 .f32) (w : FVec Ideal S256x128 .f32) (h : Lists ind) (b : Fin 4096) (g v : Fin 128) :
    out x w ind (ix3 b g v) = (x (ix2 b (lo g)) * w (ix2 (lo g) v) + x (ix2 b (hi g)) * w (ix2 (hi g) v) : EReal) := by
  have e1 : out x w ind (ix3 b g v) = Host.scatterAdd sd (broadcastInDim S128x4096x128 ![] bcast_S_S128x4096x128 (constant S_ .f32 0x00000000#32)) (rows ind)
      (transpose S256x4096x128 [1, 0, 2] (products x w ind) transposes_S4096x256x128_S256x4096x128_1_0_2) (ix3 g b v) :=
    transpose_apply _ _ _ _ _ fun a => by match a with | ⟨0, _⟩ => rfl | ⟨1, _⟩ => rfl | ⟨2, _⟩ => rfl
  have ht : ∀ (i : Fin 256), transpose S256x4096x128 [1, 0, 2] (products x w ind) transposes_S4096x256x128_S256x4096x128_1_0_2 (ix3 i b v)
      = (x (ix2 b i) * w (ix2 i v) : EReal) := fun i =>
    (transpose_apply _ _ _ _ (ix3 b i v) fun a => by match a with | ⟨0, _⟩ => rfl | ⟨1, _⟩ => rfl | ⟨2, _⟩ => rfl).trans
      ((products_apply x w h b i v).trans (mul_comm _ _))
  have hf : (Finset.univ.filter fun j : S256x4096x128.Idx => sd.resultIdx? j (rows ind) = some (ix3 g b v)) = {ix3 (lo g) b v, ix3 (hi g) b v} := by
    ext j
    rw [Finset.mem_filter, lands h, Finset.mem_insert, Finset.mem_singleton]
    constructor
    · rintro ⟨-, q0, rfl, rfl⟩
      have : (j 0).val = 2 * g.val ∨ (j 0).val = 2 * g.val + 1 := by omega
      refine this.imp (fun q => ?_) (fun q => ?_)
      · exact (eq_ix3 j).trans (congrArg (fun z : Fin 256 => ix3 z (j 1) (j 2)) (Fin.ext q))
      · exact (eq_ix3 j).trans (congrArg (fun z : Fin 256 => ix3 z (j 1) (j 2)) (Fin.ext q))
    · rintro (rfl | rfl)
      · exact ⟨Finset.mem_univ _, by show 2 * g.val / 2 = g.val; omega, rfl, rfl⟩
      · exact ⟨Finset.mem_univ _, by show (2 * g.val + 1) / 2 = g.val; omega, rfl, rfl⟩
  have hne : (ix3 (lo g) b v : S256x4096x128.Idx) ≠ ix3 (hi g) b v := fun q => by
    have q' : 2 * g.val = 2 * g.val + 1 := congrArg Fin.val (congrFun q 0)
    omega
  rw [e1]
  show (Ideal.hostScatterAdd sd _ _ _ _ : EReal) = _
  unfold Ideal.hostScatterAdd
  rw [hf, Finset.sum_insert (by rwa [Finset.mem_singleton]), Finset.sum_singleton, ht, ht]
  refine (congrArg (· + _) ?_).trans (zero_add _)
  exact Ideal.ofBits_zero_f32

end Cert.Proof.PairSum.Ref
-- ==== Proof.Equation.lean ====
/-
  The value claim: over the extended reals the kernel's result is the reference's, entry by entry, whenever the table lists
  `(i / 2, i)`.
-/
module

public import proofs.«01_k».proof.Defs
public import proofs.«01_k».proof.Proof.Launch
public import proofs.«01_k».proof.Proof.RefValue
public import proofs.«01_k».proof.Proof.Gen.ReferenceIdeal.Run

@[expose] public section

noncomputable section

namespace Cert.Proof.PairSum
open Idealize.ShloMosaic Idealize.ShloMosaic.ValueIdx Idealize.SL.Sem
open Cert.KernelIdeal Cert.KernelIdeal.Gen

/-- The kernel's result, entry by entry. -/
theorem result_apply (x : FVec Ideal S4096x256 .f32) (w : FVec Ideal S256x128 .f32) (b : Fin 4096) (g v : Fin 128) :
    result x w (ix3 b g v)
      = (x (ix2 b (Ref.lo g)) * w (ix2 (Ref.lo g) v) + x (ix2 b (Ref.hi g)) * w (ix2 (Ref.hi g) v) : EReal) := by
  have hb := b.isLt
  have hg := g.isLt
  have hv := v.isLt
  have e : result x w (ix3 b g v) = outVal x w (ix1 (⟨b.val * 16384 + g.val * 128 + v.val, by omega⟩ : Fin 67108864)) :=
    shapeCast_apply _ _ _ _ (by
      rw [Shape.rowMajor_val_one, Shape.rowMajor_val_three]
      show b.val * 16384 + g.val * 128 + v.val = (b.val * 128 + g.val) * 128 + v.val
      omega)
  rw [e]
  show blockVal x w 0 (b.val * 16384 + g.val * 128 + v.val) = _
  have d0 : 0 + (b.val * 16384 + g.val * 128 + v.val) / 16384 = b.val := by omega
  have d1 : (b.val * 16384 + g.val * 128 + v.val) / 128 % 128 = g.val := by omega
  have d2 : (b.val * 16384 + g.val * 128 + v.val) % 128 = v.val := by omega
  unfold blockVal
  rw [d0, d1, d2]
  unfold pairDot
  rw [← at2_of x (ix2 b (Ref.lo g)) rfl rfl, ← at2_of w (ix2 (Ref.lo g) v) rfl rfl,
    ← at2_of x (ix2 b (Ref.hi g)) rfl rfl, ← at2_of w (ix2 (Ref.hi g) v) rfl rfl]
  rfl

theorem result_eq (x : FVec Ideal S4096x256 .f32) (w : FVec Ideal S256x128 .f32) {ind : IVec Cert.ReferenceIdeal.S256x2 32} (h : Ref.Lists ind) :
    Ref.out x w ind = result x w := by
  have key : ∀ (b : Fin 4096) (g v : Fin 128), Ref.out x w ind (ix3 b g v) = result x w (ix3 b g v) := fun b g v =>
    (Ref.out_apply x w h b g v).trans (result_apply x w b g v).symm
  funext j
  rw [eq_ix3 (n0 := 4096) (n1 := 128) (n2 := 128) j]
  exact key (j 0) (j 1) (j 2)

theorem algebraic : Cert.algebraic_KernelIdeal_ReferenceIdeal_pre_pre := fun m ρ m' ρ' hpre hagree =>
  ⟨fun c => result (xAt m c) (wAt m c),
    (θ_run Cert.KernelIdeal.defs _ _).mono
      (fun _ h c => ⟨(h.1 c).2.2.2, (h.1 c).1, (h.1 c).2.1, (h.1 c).2.2.1⟩)
      (run_main (F := Ideal) m ρ),
    (θ_run Cert.ReferenceIdeal.defs _ _).mono
      (fun r h c => by
        refine ⟨(h c).1.trans ?_, (h c).2⟩
        rw [(hagree c).1, (hagree c).2.1, (hagree c).2.2]
        exact result_eq (xAt m c) (wAt m c) (Ref.lists_of_pre (hpre c)))
      (Cert.ReferenceIdeal.Value.run (F := Ideal) m' ρ')⟩

end Cert.Proof.PairSum
-- ==== Proof.lean ====
/-
  The certificate, assembled: the frames of the kernel at both kinds of floats and of the reference, and the value claim. The kernel
  is the same program at both kinds of floats, so the claim that passing to the ideal floats preserves it holds outright.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_pre
public import proofs.«01_k».proof.Proof.Frames
public import proofs.«01_k».proof.Proof.Equation
public import Idealize.ShloMosaic.Adequacy
public import Idealize.ShloMosaic.Init

@[expose] public section

noncomputable section

namespace Cert.Proof

open PairSum

theorem claim : Cert.Claim :=
  ⟨Cert.Kernel.Gen.facts, Cert.KernelIdeal.Gen.facts, Cert.ReferenceIdeal.Gen.facts, Cert.Pre_pre.Gen.facts,
    frame_kernel, frame_kernelIdeal, frame_kernelIdeal_pre, frame_referenceIdeal, frame_referenceIdeal_pre, trivial, algebraic⟩

end Cert.Proof

end
